-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v88_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S16384x7168 : Shape := ⟨2, ![16384, 7168]⟩
abbrev S8192x32 : Shape := ⟨2, ![8192, 32]⟩
abbrev S8 : Shape := ⟨1, ![8]⟩
abbrev S2x8x64x128 : Shape := ⟨4, ![2, 8, 64, 128]⟩
abbrev S16384x512 : Shape := ⟨2, ![16384, 512]⟩
abbrev S16384x256x2 : Shape := ⟨3, ![16384, 256, 2]⟩
abbrev S16384x256x1 : Shape := ⟨3, ![16384, 256, 1]⟩
abbrev S16384x256 : Shape := ⟨2, ![16384, 256]⟩
abbrev S16384x8192 : Shape := ⟨2, ![16384, 8192]⟩
abbrev S8192x32x2 : Shape := ⟨3, ![8192, 32, 2]⟩
abbrev S8192x64 : Shape := ⟨2, ![8192, 64]⟩
abbrev S1x8192x1x64 : Shape := ⟨4, ![1, 8192, 1, 64]⟩
abbrev S1x8192x8x64 : Shape := ⟨4, ![1, 8192, 8, 64]⟩
abbrev S8192x512 : Shape := ⟨2, ![8192, 512]⟩
abbrev S128 : Shape := ⟨1, ![128]⟩
abbrev S1x128 : Shape := ⟨2, ![1, 128]⟩
abbrev S_ : Shape := ⟨0, ![]⟩
abbrev S8x1 : Shape := ⟨2, ![8, 1]⟩
abbrev S8x128 : Shape := ⟨2, ![8, 128]⟩
abbrev S1x8x128x1 : Shape := ⟨4, ![1, 8, 128, 1]⟩
abbrev S2x8x128x128 : Shape := ⟨4, ![2, 8, 128, 128]⟩
abbrev S128x1 : Shape := ⟨2, ![128, 1]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x8 : Shape := ⟨2, ![1, 8]⟩
abbrev S128x8 : Shape := ⟨2, ![128, 8]⟩
abbrev S128x8x64 : Shape := ⟨3, ![128, 8, 64]⟩
abbrev S128x512 : Shape := ⟨2, ![128, 512]⟩
abbrev S16384x1024 : Shape := ⟨2, ![16384, 1024]⟩
abbrev S256x512 : Shape := ⟨2, ![256, 512]⟩
abbrev S256x1024 : Shape := ⟨2, ![256, 1024]⟩
abbrev S1x8x128x128 : Shape := ⟨4, ![1, 8, 128, 128]⟩

abbrev nBuf : Space → Nat
  | .hbm => 146
  | .vmem => 25
  | .smem => 0
  | _ => 0

abbrev hbmTy0_0 (i : Nat) : BufTy := match i % 128 with
  | 0 => ⟨S16384x7168, .f32⟩
  | 1 => ⟨S8192x32, .f32⟩
  | 2 => ⟨S8192x32, .f32⟩
  | 3 => ⟨S8, .f32⟩
  | 4 => ⟨S2x8x64x128, .f32⟩
  | 5 => ⟨S16384x512, .f32⟩
  | 6 => ⟨S16384x256x2, .f32⟩
  | 7 => ⟨S16384x256x1, .f32⟩
  | 8 => ⟨S16384x256, .f32⟩
  | 9 => ⟨S16384x256, .f32⟩
  | 10 => ⟨S16384x256x1, .f32⟩
  | 11 => ⟨S16384x256, .f32⟩
  | 12 => ⟨S16384x256x1, .f32⟩
  | 13 => ⟨S16384x256x1, .f32⟩
  | 14 => ⟨S16384x256x2, .f32⟩
  | 15 => ⟨S16384x512, .f32⟩
  | 16 => ⟨S16384x512, .f32⟩
  | 17 => ⟨S16384x256x2, .f32⟩
  | 18 => ⟨S16384x256x1, .f32⟩
  | 19 => ⟨S16384x256, .f32⟩
  | 20 => ⟨S16384x256, .f32⟩
  | 21 => ⟨S16384x256x1, .f32⟩
  | 22 => ⟨S16384x256, .f32⟩
  | 23 => ⟨S16384x256x1, .f32⟩
  | 24 => ⟨S16384x256x1, .f32⟩
  | 25 => ⟨S16384x256x2, .f32⟩
  | 26 => ⟨S16384x512, .f32⟩
  | 27 => ⟨S16384x8192, .f32⟩
  | 28 => ⟨S8192x32x2, .f32⟩
  | 29 => ⟨S8192x64, .f32⟩
  | 30 => ⟨S1x8192x1x64, .f32⟩
  | 31 => ⟨S1x8192x8x64, .f32⟩
  | 32 => ⟨S8192x512, .f32⟩
  | 33 => ⟨S8192x32x2, .f32⟩
  | 34 => ⟨S8192x64, .f32⟩
  | 35 => ⟨S1x8192x1x64, .f32⟩
  | 36 => ⟨S1x8192x8x64, .f32⟩
  | 37 => ⟨S8192x512, .f32⟩
  | 38 => ⟨S128, .i32⟩
  | 39 => ⟨S1x128, .i32⟩
  | 40 => ⟨S_, .i32⟩
  | 41 => ⟨S_, .i32⟩
  | 42 => ⟨S1x128, .i32⟩
  | 43 => ⟨S1x128, .i32⟩
  | 44 => ⟨S1x128, .i32⟩
  | 45 => ⟨S_, .i32⟩
  | 46 => ⟨S1x128, .i32⟩
  | 47 => ⟨S1x128, .i1⟩
  | 48 => ⟨S1x128, .i32⟩
  | 49 => ⟨S1x128, .i32⟩
  | 50 => ⟨S_, .i32⟩
  | 51 => ⟨S1x128, .i32⟩
  | 52 => ⟨S1x128, .i1⟩
  | 53 => ⟨S1x128, .i1⟩
  | 54 => ⟨S_, .i32⟩
  | 55 => ⟨S1x128, .i32⟩
  | 56 => ⟨S1x128, .i32⟩
  | 57 => ⟨S1x128, .i32⟩
  | 58 => ⟨S8, .i32⟩
  | 59 => ⟨S8x1, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S8x1, .i32⟩
  | 67 => ⟨S8x1, .i32⟩
  | 68 => ⟨S_, .i32⟩
  | 69 => ⟨S8x1, .i32⟩
  | 70 => ⟨S8x1, .i1⟩
  | 71 => ⟨S_, .i32⟩
  | 72 => ⟨S8x1, .i32⟩
  | 73 => ⟨S8x1, .i1⟩
  | 74 => ⟨S_, .i32⟩
  | 75 => ⟨S_, .i1⟩
  | 76 => ⟨S8x1, .i1⟩
  | 77 => ⟨S8x1, .i1⟩
  | 78 => ⟨S8x1, .i1⟩
  | 79 => ⟨S8x1, .i32⟩
  | 80 => ⟨S8x1, .i32⟩
  | 81 => ⟨S8x1, .i32⟩
  | 82 => ⟨S8x128, .i32⟩
  | 83 => ⟨S8x128, .i32⟩
  | 84 => ⟨S8x128, .i1⟩
  | 85 => ⟨S1x8x128x1, .i1⟩
  | 86 => ⟨S2x8x128x128, .f32⟩
  | 87 => ⟨S_, .f32⟩
  | 88 => ⟨S_, .f32⟩
  | 89 => ⟨S2x8x128x128, .i1⟩
  | 90 => ⟨S2x8x128x128, .f32⟩
  | 91 => ⟨S2x8x128x128, .f32⟩
  | 92 => ⟨S128, .f32⟩
  | 93 => ⟨S128x1, .f32⟩
  | 94 => ⟨S1x128, .f32⟩
  | 95 => ⟨S128x128, .f32⟩
  | 96 => ⟨S128x128, .f32⟩
  | 97 => ⟨S128x128, .f32⟩
  | 98 => ⟨S_, .f32⟩
  | 99 => ⟨S128, .f32⟩
  | 100 => ⟨S128, .f32⟩
  | 101 => ⟨S_, .f32⟩
  | 102 => ⟨S128, .f32⟩
  | 103 => ⟨S128, .f32⟩
  | 104 => ⟨S1x128x128, .f32⟩
  | 105 => ⟨S_, .f32⟩
  | 106 => ⟨S1x128x128, .f32⟩
  | 107 => ⟨S1x128x128, .i1⟩
  | 108 => ⟨S_, .f32⟩
  | 109 => ⟨S128x128, .f32⟩
  | 110 => ⟨S128x128, .f32⟩
  | 111 => ⟨S1x128x128, .f32⟩
  | 112 => ⟨S8x1x1, .f32⟩
  | 113 => ⟨S8x128x128, .f32⟩
  | 114 => ⟨S8x128x128, .f32⟩
  | 115 => ⟨S8x128x128, .f32⟩
  | 116 => ⟨S8x128x128, .f32⟩
  | 117 => ⟨S_, .f32⟩
  | 118 => ⟨S_, .f32⟩
  | 119 => ⟨S8x128x128, .i1⟩
  | 120 => ⟨S8x128x128, .f32⟩
  | 121 => ⟨S8x128x128, .f32⟩
  | 122 => ⟨S128x1, .f32⟩
  | 123 => ⟨S1x8, .f32⟩
  | 124 => ⟨S128x8, .f32⟩
  | 125 => ⟨S128x8, .f32⟩
  | 126 => ⟨S128x8, .f32⟩
  | 127 => ⟨S128x8, .f32⟩
  | _ => ⟨S16384x7168, .f32⟩

abbrev hbmTy0_1 (i : Nat) : BufTy := match i % 128 with
  | 0 => ⟨S128x8x64, .f32⟩
  | 1 => ⟨S128x512, .f32⟩
  | 2 => ⟨S128x1, .f32⟩
  | 3 => ⟨S1x8, .f32⟩
  | 4 => ⟨S128x8, .f32⟩
  | 5 => ⟨S128x8, .f32⟩
  | 6 => ⟨S128x8, .f32⟩
  | 7 => ⟨S128x8, .f32⟩
  | 8 => ⟨S128x8x64, .f32⟩
  | 9 => ⟨S128x512, .f32⟩
  | 10 => ⟨S_, .f32⟩
  | 11 => ⟨S8, .f32⟩
  | 12 => ⟨S8, .f32⟩
  | 13 => ⟨S8, .f32⟩
  | 14 => ⟨S8x1x1, .f32⟩
  | 15 => ⟨S8x128x128, .f32⟩
  | 16 => ⟨S16384x1024, .f32⟩
  | 17 => ⟨S2x8x128x128, .f32⟩
  | _ => ⟨S16384x7168, .f32⟩

abbrev hbmTy (i : Nat) : BufTy := match i / 128 with
  | 0 => hbmTy0_0 i
  | 1 => hbmTy0_1 i
  | _ => ⟨S16384x7168, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S8x128x128, .f32⟩
  | .local _ .vmem, ⟨15, _⟩ => ⟨S128x512, .f32⟩
  | .local _ .vmem, ⟨16, _⟩ => ⟨S128x512, .f32⟩
  | .local _ .vmem, ⟨17, _⟩ => ⟨S8x128x128, .f32⟩
  | .local _ .vmem, ⟨18, _⟩ => ⟨S1x8x128x128, .f32⟩
  | .local _ .vmem, ⟨19, _⟩ => ⟨S1x8x128x128, .f32⟩
  | .local _ .vmem, ⟨20, _⟩ => ⟨S256x1024, .f32⟩
  | .local _ .vmem, ⟨21, _⟩ => ⟨S256x1024, .f32⟩
  | .local _ .vmem, ⟨22, _⟩ => ⟨S1x8x128x128, .f32⟩
  | .local _ .vmem, ⟨23, _⟩ => ⟨S1x8x128x128, .f32⟩
  | .local _ .vmem, ⟨24, _⟩ => ⟨S8x128x128, .f32⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_0 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_v5 : Ref sig .tc := ⟨.hbm, 69, rfl⟩
abbrev main_call1_v6 : Ref sig .tc := ⟨.hbm, 70, rfl⟩
abbrev main_call1_c_2 : Ref sig .tc := ⟨.hbm, 71, rfl⟩
abbrev main_call1_v7 : Ref sig .tc := ⟨.hbm, 72, rfl⟩
abbrev main_call1_v8 : Ref sig .tc := ⟨.hbm, 73, rfl⟩
abbrev main_call1_c_3 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_1 : Ref sig .tc := ⟨.hbm, 98, rfl⟩
abbrev main_v51 : Ref sig .tc := ⟨.hbm, 99, rfl⟩
abbrev main_v52 : Ref sig .tc := ⟨.hbm, 100, rfl⟩
abbrev main_cst_2 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_3 : Ref sig .tc := ⟨.hbm, 105, rfl⟩
abbrev main_v56 : Ref sig .tc := ⟨.hbm, 106, rfl⟩
abbrev main_v57 : Ref sig .tc := ⟨.hbm, 107, rfl⟩
abbrev main_cst_4 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_5 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_6 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88_0 : Ref sig .tc := ⟨.hbm, 144, rfl⟩
abbrev main_v88_1 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v658 : BitVec 1 := Scalar.cmpi .eq arg1 c31_i32
  let v659 : BitVec 32 := Scalar.extui v658
  let c0_i32_427 : BitVec 32 := 0#32
  let v660 : BitVec 1 := Scalar.cmpi .ne v659 c0_i32_427
  v660

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c14_i32 : BitVec 32 := 14#32
  let c0_i32 : BitVec 32 := 0#32
  ![v1.toNat, c14_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c15_i32 : BitVec 32 := 15#32
  let c0_i32 : BitVec 32 := 0#32
  ![v1.toNat, c15_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S16384x7168 : Shape := ⟨2, ![16384, 7168]⟩
abbrev S8192x32 : Shape := ⟨2, ![8192, 32]⟩
abbrev S8 : Shape := ⟨1, ![8]⟩
abbrev S2x8x64x128 : Shape := ⟨4, ![2, 8, 64, 128]⟩
abbrev S16384x512 : Shape := ⟨2, ![16384, 512]⟩
abbrev S2x8192x8x64 : Shape := ⟨4, ![2, 8192, 8, 64]⟩
abbrev S2x8192x8x32x2 : Shape := ⟨5, ![2, 8192, 8, 32, 2]⟩
abbrev S2x8192x8x32x1 : Shape := ⟨5, ![2, 8192, 8, 32, 1]⟩
abbrev S2x8192x8x32 : Shape := ⟨4, ![2, 8192, 8, 32]⟩
abbrev S1x8192x1x32 : Shape := ⟨4, ![1, 8192, 1, 32]⟩
abbrev S_ : Shape := ⟨0, ![]⟩
abbrev S16384x1024 : Shape := ⟨2, ![16384, 1024]⟩
abbrev S2x8192x8x128 : Shape := ⟨4, ![2, 8192, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x8 : Shape := ⟨2, ![1, 8]⟩
abbrev S128x8 : Shape := ⟨2, ![128, 8]⟩
abbrev S128x8x1 : Shape := ⟨3, ![128, 8, 1]⟩
abbrev S1x8x1x1 : Shape := ⟨4, ![1, 8, 1, 1]⟩
abbrev S2x64x128x8x64 : Shape := ⟨5, ![2, 64, 128, 8, 64]⟩
abbrev S64x2x128x8x64 : Shape := ⟨5, ![64, 2, 128, 8, 64]⟩
abbrev S2x64x128x8x128 : Shape := ⟨5, ![2, 64, 128, 8, 128]⟩
abbrev S64x2x128x8x128 : Shape := ⟨5, ![64, 2, 128, 8, 128]⟩
abbrev S1x2x128x8x64 : Shape := ⟨5, ![1, 2, 128, 8, 64]⟩
abbrev S2x128x8x64 : Shape := ⟨4, ![2, 128, 8, 64]⟩
abbrev S1x2x128x8x128 : Shape := ⟨5, ![1, 2, 128, 8, 128]⟩
abbrev S2x128x8x128 : Shape := ⟨4, ![2, 128, 8, 128]⟩
abbrev S2x8x128x128 : Shape := ⟨4, ![2, 8, 128, 128]⟩
abbrev S1x8x128x128 : Shape := ⟨4, ![1, 8, 128, 128]⟩
abbrev S1x128x8x1 : Shape := ⟨4, ![1, 128, 8, 1]⟩

abbrev nBuf : Space → Nat
  | .hbm => 174
  | .vmem => 0
  | .smem => 0
  | _ => 0

abbrev hbmTy0_0 (i : Nat) : BufTy := match i % 128 with
  | 0 => ⟨S16384x7168, .f32⟩
  | 1 => ⟨S8192x32, .f32⟩
  | 2 => ⟨S8192x32, .f32⟩
  | 3 => ⟨S8, .f32⟩
  | 4 => ⟨S2x8x64x128, .f32⟩
  | 5 => ⟨S16384x512, .f32⟩
  | 6 => ⟨S2x8192x8x64, .f32⟩
  | 7 => ⟨S2x8192x8x32x2, .f32⟩
  | 8 => ⟨S2x8192x8x32x1, .f32⟩
  | 9 => ⟨S2x8192x8x32, .f32⟩
  | 10 => ⟨S2x8192x8x32x1, .f32⟩
  | 11 => ⟨S2x8192x8x32, .f32⟩
  | 12 => ⟨S1x8192x1x32, .f32⟩
  | 13 => ⟨S1x8192x1x32, .f32⟩
  | 14 => ⟨S2x8192x8x32, .f32⟩
  | 15 => ⟨S2x8192x8x32, .f32⟩
  | 16 => ⟨S2x8192x8x32, .f32⟩
  | 17 => ⟨S2x8192x8x32, .f32⟩
  | 18 => ⟨S2x8192x8x32, .f32⟩
  | 19 => ⟨S2x8192x8x32, .f32⟩
  | 20 => ⟨S2x8192x8x32, .f32⟩
  | 21 => ⟨S2x8192x8x32, .f32⟩
  | 22 => ⟨S2x8192x8x32, .f32⟩
  | 23 => ⟨S2x8192x8x32, .f32⟩
  | 24 => ⟨S2x8192x8x32x1, .f32⟩
  | 25 => ⟨S2x8192x8x32x1, .f32⟩
  | 26 => ⟨S2x8192x8x32x2, .f32⟩
  | 27 => ⟨S2x8192x8x64, .f32⟩
  | 28 => ⟨S16384x512, .f32⟩
  | 29 => ⟨S2x8192x8x64, .f32⟩
  | 30 => ⟨S_, .f32⟩
  | 31 => ⟨S2x8192x8x64, .f32⟩
  | 32 => ⟨S2x8192x8x64, .f32⟩
  | 33 => ⟨S2x8192x8x32x2, .f32⟩
  | 34 => ⟨S2x8192x8x32x1, .f32⟩
  | 35 => ⟨S2x8192x8x32, .f32⟩
  | 36 => ⟨S2x8192x8x32x1, .f32⟩
  | 37 => ⟨S2x8192x8x32, .f32⟩
  | 38 => ⟨S1x8192x1x32, .f32⟩
  | 39 => ⟨S1x8192x1x32, .f32⟩
  | 40 => ⟨S2x8192x8x32, .f32⟩
  | 41 => ⟨S2x8192x8x32, .f32⟩
  | 42 => ⟨S2x8192x8x32, .f32⟩
  | 43 => ⟨S2x8192x8x32, .f32⟩
  | 44 => ⟨S2x8192x8x32, .f32⟩
  | 45 => ⟨S2x8192x8x32, .f32⟩
  | 46 => ⟨S2x8192x8x32, .f32⟩
  | 47 => ⟨S2x8192x8x32, .f32⟩
  | 48 => ⟨S2x8192x8x32, .f32⟩
  | 49 => ⟨S2x8192x8x32, .f32⟩
  | 50 => ⟨S2x8192x8x32x1, .f32⟩
  | 51 => ⟨S2x8192x8x32x1, .f32⟩
  | 52 => ⟨S2x8192x8x32x2, .f32⟩
  | 53 => ⟨S2x8192x8x64, .f32⟩
  | 54 => ⟨S16384x1024, .f32⟩
  | 55 => ⟨S2x8192x8x128, .f32⟩
  | 56 => ⟨S128, .f32⟩
  | 57 => ⟨S128x1, .f32⟩
  | 58 => ⟨S1x128, .f32⟩
  | 59 => ⟨S128x128, .f32⟩
  | 60 => ⟨S128x128, .f32⟩
  | 61 => ⟨S128x128, .f32⟩
  | 62 => ⟨S1x128x128, .f32⟩
  | 63 => ⟨S_, .f32⟩
  | 64 => ⟨S1x128x128, .f32⟩
  | 65 => ⟨S1x128x128, .i1⟩
  | 66 => ⟨S_, .f32⟩
  | 67 => ⟨S128x128, .f32⟩
  | 68 => ⟨S128x128, .f32⟩
  | 69 => ⟨S1x128x128, .f32⟩
  | 70 => ⟨S8x1x1, .f32⟩
  | 71 => ⟨S8x128x128, .f32⟩
  | 72 => ⟨S8x128x128, .f32⟩
  | 73 => ⟨S8x128x128, .f32⟩
  | 74 => ⟨S8x128x128, .f32⟩
  | 75 => ⟨S_, .f32⟩
  | 76 => ⟨S_, .f32⟩
  | 77 => ⟨S8x128x128, .i1⟩
  | 78 => ⟨S8x128x128, .f32⟩
  | 79 => ⟨S8x128x128, .f32⟩
  | 80 => ⟨S_, .f32⟩
  | 81 => ⟨S128, .f32⟩
  | 82 => ⟨S128, .f32⟩
  | 83 => ⟨S128x1, .f32⟩
  | 84 => ⟨S1x8, .f32⟩
  | 85 => ⟨S128x8, .f32⟩
  | 86 => ⟨S128x8, .f32⟩
  | 87 => ⟨S128x8, .f32⟩
  | 88 => ⟨S128x8, .f32⟩
  | 89 => ⟨S128x8x1, .f32⟩
  | 90 => ⟨S_, .f32⟩
  | 91 => ⟨S128, .f32⟩
  | 92 => ⟨S128, .f32⟩
  | 93 => ⟨S128x1, .f32⟩
  | 94 => ⟨S1x8, .f32⟩
  | 95 => ⟨S128x8, .f32⟩
  | 96 => ⟨S128x8, .f32⟩
  | 97 => ⟨S128x8, .f32⟩
  | 98 => ⟨S128x8, .f32⟩
  | 99 => ⟨S128x8x1, .f32⟩
  | 100 => ⟨S_, .f32⟩
  | 101 => ⟨S8, .f32⟩
  | 102 => ⟨S8, .f32⟩
  | 103 => ⟨S8, .f32⟩
  | 104 => ⟨S1x8x1x1, .f32⟩
  | 105 => ⟨S2x64x128x8x64, .f32⟩
  | 106 => ⟨S64x2x128x8x64, .f32⟩
  | 107 => ⟨S2x64x128x8x64, .f32⟩
  | 108 => ⟨S64x2x128x8x64, .f32⟩
  | 109 => ⟨S2x64x128x8x128, .f32⟩
  | 110 => ⟨S64x2x128x8x128, .f32⟩
  | 111 => ⟨S_, .f32⟩
  | 112 => ⟨S64x2x128x8x128, .f32⟩
  | 113 => ⟨S_, .i32⟩
  | 114 => ⟨S64x2x128x8x64, .f32⟩
  | 115 => ⟨S64x2x128x8x64, .f32⟩
  | 116 => ⟨S64x2x128x8x128, .f32⟩
  | 117 => ⟨S8x128x128, .f32⟩
  | 118 => ⟨S128x8x1, .f32⟩
  | 119 => ⟨S128x8x1, .f32⟩
  | 120 => ⟨S1x8x1x1, .f32⟩
  | 121 => ⟨S_, .i32⟩
  | 122 => ⟨S2x8x64x128, .f32⟩
  | 123 => ⟨S64x2x128x8x128, .f32⟩
  | 124 => ⟨S_, .i32⟩
  | 125 => ⟨S_, .i1⟩
  | 126 => ⟨S_, .i32⟩
  | 127 => ⟨S_, .i32⟩
  | _ => ⟨S16384x7168, .f32⟩

abbrev hbmTy0_1 (i : Nat) : BufTy := match i % 128 with
  | 0 => ⟨S_, .i32⟩
  | 1 => ⟨S_, .i32⟩
  | 2 => ⟨S1x2x128x8x64, .f32⟩
  | 3 => ⟨S2x128x8x64, .f32⟩
  | 4 => ⟨S_, .i32⟩
  | 5 => ⟨S_, .i32⟩
  | 6 => ⟨S_, .i32⟩
  | 7 => ⟨S_, .i32⟩
  | 8 => ⟨S1x2x128x8x64, .f32⟩
  | 9 => ⟨S2x128x8x64, .f32⟩
  | 10 => ⟨S_, .i32⟩
  | 11 => ⟨S_, .i32⟩
  | 12 => ⟨S_, .i32⟩
  | 13 => ⟨S_, .i32⟩
  | 14 => ⟨S1x2x128x8x128, .f32⟩
  | 15 => ⟨S2x128x8x128, .f32⟩
  | 16 => ⟨S2x8x128x128, .f32⟩
  | 17 => ⟨S1x8x128x128, .f32⟩
  | 18 => ⟨S2x8x128x128, .f32⟩
  | 19 => ⟨S2x8x128x128, .f32⟩
  | 20 => ⟨S2x8x128x128, .f32⟩
  | 21 => ⟨S2x128x8x128, .f32⟩
  | 22 => ⟨S1x128x8x1, .f32⟩
  | 23 => ⟨S2x128x8x64, .f32⟩
  | 24 => ⟨S2x128x8x64, .f32⟩
  | 25 => ⟨S2x8x128x128, .f32⟩
  | 26 => ⟨S2x128x8x128, .f32⟩
  | 27 => ⟨S1x128x8x1, .f32⟩
  | 28 => ⟨S2x128x8x64, .f32⟩
  | 29 => ⟨S2x128x8x64, .f32⟩
  | 30 => ⟨S2x8x64x128, .f32⟩
  | 31 => ⟨S2x8x64x128, .f32⟩
  | 32 => ⟨S2x8x64x128, .f32⟩
  | 33 => ⟨S2x8x64x128, .f32⟩
  | 34 => ⟨S2x128x8x128, .f32⟩
  | 35 => ⟨S1x2x128x8x128, .f32⟩
  | 36 => ⟨S_, .i32⟩
  | 37 => ⟨S_, .i32⟩
  | 38 => ⟨S_, .i32⟩
  | 39 => ⟨S_, .i32⟩
  | 40 => ⟨S64x2x128x8x128, .f32⟩
  | 41 => ⟨S_, .i32⟩
  | 42 => ⟨S_, .i32⟩
  | 43 => ⟨S2x64x128x8x128, .f32⟩
  | 44 => ⟨S2x8192x8x128, .f32⟩
  | 45 => ⟨S16384x1024, .f32⟩
  | _ => ⟨S16384x7168, .f32⟩

abbrev hbmTy (i : Nat) : BufTy := match i / 128 with
  | 0 => hbmTy0_0 i
  | 1 => hbmTy0_1 i
  | _ => ⟨S16384x7168, .f32⟩

abbrev bufTy : (tb : Table) → Fin (tcTables nBuf tb) → BufTy
  | .hbm, ⟨i, _⟩ => hbmTy i
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_cst_0 : Ref sig .tc := ⟨.hbm, 63, rfl⟩
abbrev main_v57 : Ref sig .tc := ⟨.hbm, 64, rfl⟩
abbrev main_v58 : Ref sig .tc := ⟨.hbm, 65, rfl⟩
abbrev main_cst_1 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_2 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v67 : Ref sig .tc := ⟨.hbm, 79, rfl⟩
abbrev main_cst_3 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_4 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_cst_5 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_6 : Ref sig .tc := ⟨.hbm, 111, rfl⟩
abbrev main_v96 : Ref sig .tc := ⟨.hbm, 112, rfl⟩
abbrev main_c : Ref sig .tc := ⟨.hbm, 113, rfl⟩
abbrev main_v97_0 : Ref sig .tc := ⟨.hbm, 114, rfl⟩
abbrev main_v97_1 : Ref sig .tc := ⟨.hbm, 115, rfl⟩
abbrev main_v97_2 : Ref sig .tc := ⟨.hbm, 116, rfl⟩
abbrev main_v97_3 : Ref sig .tc := ⟨.hbm, 117, rfl⟩
abbrev main_v97_4 : Ref sig .tc := ⟨.hbm, 118, rfl⟩
abbrev main_v97_5 : Ref sig .tc := ⟨.hbm, 119, rfl⟩
abbrev main_v97_6 : Ref sig .tc := ⟨.hbm, 120, rfl⟩
abbrev main_v97_7 : Ref sig .tc := ⟨.hbm, 121, rfl⟩
abbrev main_v97_8 : Ref sig .tc := ⟨.hbm, 122, rfl⟩
abbrev main_v97_9 : Ref sig .tc := ⟨.hbm, 123, rfl⟩
abbrev main_while0c_c_16 : Ref sig .tc := ⟨.hbm, 124, rfl⟩
abbrev main_while0c_v101 : Ref sig .tc := ⟨.hbm, 125, rfl⟩
abbrev main_while0b_call1_c : Ref sig .tc := ⟨.hbm, 126, rfl⟩
abbrev main_while0b_call1_c_0 : Ref sig .tc := ⟨.hbm, 127, rfl⟩
abbrev main_while0b_call1_c_1 : Ref sig .tc := ⟨.hbm, 128, rfl⟩
abbrev main_while0b_call1_c_2 : Ref sig .tc := ⟨.hbm, 129, rfl⟩
abbrev main_while0b_call1_v0 : Ref sig .tc := ⟨.hbm, 130, rfl⟩
abbrev main_while0b_v101 : Ref sig .tc := ⟨.hbm, 131, rfl⟩
abbrev main_while0b_call2_c : Ref sig .tc := ⟨.hbm, 132, rfl⟩
abbrev main_while0b_call2_c_0 : Ref sig .tc := ⟨.hbm, 133, rfl⟩
abbrev main_while0b_call2_c_1 : Ref sig .tc := ⟨.hbm, 134, rfl⟩
abbrev main_while0b_call2_c_2 : Ref sig .tc := ⟨.hbm, 135, rfl⟩
abbrev main_while0b_call2_v0 : Ref sig .tc := ⟨.hbm, 136, rfl⟩
abbrev main_while0b_v102 : Ref sig .tc := ⟨.hbm, 137, rfl⟩
abbrev main_while0b_call3_c : Ref sig .tc := ⟨.hbm, 138, rfl⟩
abbrev main_while0b_call3_c_0 : Ref sig .tc := ⟨.hbm, 139, rfl⟩
abbrev main_while0b_call3_c_1 : Ref sig .tc := ⟨.hbm, 140, rfl⟩
abbrev main_while0b_call3_c_2 : Ref sig .tc := ⟨.hbm, 141, rfl⟩
abbrev main_while0b_call3_v0 : Ref sig .tc := ⟨.hbm, 142, rfl⟩
abbrev main_while0b_v103 : Ref sig .tc := ⟨.hbm, 143, rfl⟩
abbrev main_while0b_v104 : Ref sig .tc := ⟨.hbm, 144, rfl⟩
abbrev main_while0b_v105 : Ref sig .tc := ⟨.hbm, 145, rfl⟩
abbrev main_while0b_v106 : Ref sig .tc := ⟨.hbm, 146, rfl⟩
abbrev main_while0b_v107 : Ref sig .tc := ⟨.hbm, 147, rfl⟩
abbrev main_while0b_v108 : Ref sig .tc := ⟨.hbm, 148, rfl⟩
abbrev main_while0b_v109 : Ref sig .tc := ⟨.hbm, 149, rfl⟩
abbrev main_while0b_v110 : Ref sig .tc := ⟨.hbm, 150, rfl⟩
abbrev main_while0b_v111 : Ref sig .tc := ⟨.hbm, 151, rfl⟩
abbrev main_while0b_v112 : Ref sig .tc := ⟨.hbm, 152, rfl⟩
abbrev main_while0b_v113 : Ref sig .tc := ⟨.hbm, 153, rfl⟩
abbrev main_while0b_v114 : Ref sig .tc := ⟨.hbm, 154, rfl⟩
abbrev main_while0b_v115 : Ref sig .tc := ⟨.hbm, 155, rfl⟩
abbrev main_while0b_v116 : Ref sig .tc := ⟨.hbm, 156, rfl⟩
abbrev main_while0b_v117 : Ref sig .tc := ⟨.hbm, 157, rfl⟩
abbrev main_while0b_v118 : Ref sig .tc := ⟨.hbm, 158, rfl⟩
abbrev main_while0b_v119 : Ref sig .tc := ⟨.hbm, 159, rfl⟩
abbrev main_while0b_v120 : Ref sig .tc := ⟨.hbm, 160, rfl⟩
abbrev main_while0b_v121 : Ref sig .tc := ⟨.hbm, 161, rfl⟩
abbrev main_while0b_v122 : Ref sig .tc := ⟨.hbm, 162, rfl⟩
abbrev main_while0b_call4_v0 : Ref sig .tc := ⟨.hbm, 163, rfl⟩
abbrev main_while0b_call4_c : Ref sig .tc := ⟨.hbm, 164, rfl⟩
abbrev main_while0b_call4_c_0 : Ref sig .tc := ⟨.hbm, 165, rfl⟩
abbrev main_while0b_call4_c_1 : Ref sig .tc := ⟨.hbm, 166, rfl⟩
abbrev main_while0b_call4_c_2 : Ref sig .tc := ⟨.hbm, 167, rfl⟩
abbrev main_while0b_v123 : Ref sig .tc := ⟨.hbm, 168, rfl⟩
abbrev main_while0b_c_16 : Ref sig .tc := ⟨.hbm, 169, rfl⟩
abbrev main_while0b_v124 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S2x8192x1024 : Shape := ⟨3, ![2, 8192, 1024]⟩
abbrev S1024 : Shape := ⟨1, ![1024]⟩
abbrev S2x1x1024 : Shape := ⟨3, ![2, 1, 1024]⟩
abbrev S1024x8192 : Shape := ⟨2, ![1024, 8192]⟩
abbrev S1536x1024 : Shape := ⟨2, ![1536, 1024]⟩
abbrev S16384x1024 : Shape := ⟨2, ![16384, 1024]⟩
abbrev S1x1024 : Shape := ⟨2, ![1, 1024]⟩
abbrev S16384x8192 : Shape := ⟨2, ![16384, 8192]⟩
abbrev S1536x16384 : Shape := ⟨2, ![1536, 16384]⟩
abbrev S512x1024 : Shape := ⟨2, ![512, 1024]⟩
abbrev S1x1x1024 : Shape := ⟨3, ![1, 1, 1024]⟩
abbrev S1024x2048 : Shape := ⟨2, ![1024, 2048]⟩
abbrev S512x2048 : Shape := ⟨2, ![512, 2048]⟩
abbrev S1536x512 : Shape := ⟨2, ![1536, 512]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x8192, .bf16⟩
  | .hbm, ⟨5, _⟩ => ⟨S1536x1024, .bf16⟩
  | .hbm, ⟨6, _⟩ => ⟨S16384x1024, .f32⟩
  | .hbm, ⟨7, _⟩ => ⟨S1x1024, .f32⟩
  | .hbm, ⟨8, _⟩ => ⟨S16384x8192, .f32⟩
  | .hbm, ⟨9, _⟩ => ⟨S1536x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1024x2048, .bf16⟩
  | .local _ .vmem, ⟨9, _⟩ => ⟨S1536x1024, .bf16⟩
  | .local _ .vmem, ⟨10, _⟩ => ⟨S512x2048, .f32⟩
  | .local _ .vmem, ⟨11, _⟩ => ⟨S512x2048, .f32⟩
  | .local _ .vmem, ⟨12, _⟩ => ⟨S1536x512, .f32⟩
  | .local _ .vmem, ⟨13, _⟩ => ⟨S1536x512, .f32⟩
  | .local _ .vmem, ⟨14, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1536x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S2x8192x1024 : Shape := ⟨3, ![2, 8192, 1024]⟩
abbrev S1024 : Shape := ⟨1, ![1024]⟩
abbrev S2x1x1024 : Shape := ⟨3, ![2, 1, 1024]⟩
abbrev S1024x8192 : Shape := ⟨2, ![1024, 8192]⟩
abbrev S1536x1024 : Shape := ⟨2, ![1536, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩
abbrev S16384x8192 : Shape := ⟨2, ![16384, 8192]⟩
abbrev S1024x1536 : Shape := ⟨2, ![1024, 1536]⟩
abbrev S16384x1536 : Shape := ⟨2, ![16384, 1536]⟩
abbrev S1536x16384 : Shape := ⟨2, ![1536, 16384]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x8192, .bf16⟩
  | .hbm, ⟨5, _⟩ => ⟨S1536x1024, .bf16⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S16384x1024, .f32⟩
  | .hbm, ⟨30, _⟩ => ⟨S1024x8192, .f32⟩
  | .hbm, ⟨31, _⟩ => ⟨S16384x8192, .f32⟩
  | .hbm, ⟨32, _⟩ => ⟨S1536x1024, .f32⟩
  | .hbm, ⟨33, _⟩ => ⟨S1024x1536, .f32⟩
  | .hbm, ⟨34, _⟩ => ⟨S16384x1536, .f32⟩
  | .hbm, ⟨35, _⟩ => ⟨S1536x16384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel3.lean ====
abbrev S2x8192x1024 : Shape := ⟨3, ![2, 8192, 1024]⟩
abbrev S16384x8192 : Shape := ⟨2, ![16384, 8192]⟩
abbrev S16384x1024 : Shape := ⟨2, ![16384, 1024]⟩
abbrev S16384x512 : Shape := ⟨2, ![16384, 512]⟩
abbrev S512x16384 : Shape := ⟨2, ![512, 16384]⟩
abbrev S2x1x1024 : Shape := ⟨3, ![2, 1, 1024]⟩
abbrev S1024x1024 : Shape := ⟨2, ![1024, 1024]⟩
abbrev S512x1024 : Shape := ⟨2, ![512, 1024]⟩
abbrev S512x512 : Shape := ⟨2, ![512, 512]⟩
abbrev S1x1x1024 : Shape := ⟨3, ![1, 1, 1024]⟩
abbrev S1x1024 : Shape := ⟨2, ![1, 1024]⟩

abbrev nBuf : Space → Nat
  | .hbm => 16
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S16384x8192, .f32⟩
  | .hbm, ⟨2, _⟩ => ⟨S16384x1024, .bf16⟩
  | .hbm, ⟨3, _⟩ => ⟨S16384x512, .bf16⟩
  | .hbm, ⟨4, _⟩ => ⟨S512x16384, .f32⟩
  | .hbm, ⟨5, _⟩ => ⟨S2x1x1024, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S16384x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S1x1x1024, .f32⟩
  | .local _ .vmem, ⟨21, _⟩ => ⟨S1x1x1024, .f32⟩
  | .local _ .vmem, ⟨22, _⟩ => ⟨S1024x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_8 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_9 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S2x8192x1024 : Shape := ⟨3, ![2, 8192, 1024]⟩
abbrev S16384x8192 : Shape := ⟨2, ![16384, 8192]⟩
abbrev S16384x1024 : Shape := ⟨2, ![16384, 1024]⟩
abbrev S16384x512 : Shape := ⟨2, ![16384, 512]⟩
abbrev S512x16384 : Shape := ⟨2, ![512, 16384]⟩
abbrev S2x1x1024 : Shape := ⟨3, ![2, 1, 1024]⟩
abbrev S1024x1024 : Shape := ⟨2, ![1024, 1024]⟩
abbrev S512x1024 : Shape := ⟨2, ![512, 1024]⟩
abbrev S16384x3072 : Shape := ⟨2, ![16384, 3072]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x8192, .f32⟩
  | .hbm, ⟨2, _⟩ => ⟨S16384x1024, .bf16⟩
  | .hbm, ⟨3, _⟩ => ⟨S16384x512, .bf16⟩
  | .hbm, ⟨4, _⟩ => ⟨S512x16384, .f32⟩
  | .hbm, ⟨5, _⟩ => ⟨S2x1x1024, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S16384x512, .f32⟩
  | .hbm, ⟨13, _⟩ => ⟨S16384x1024, .f32⟩
  | .hbm, ⟨14, _⟩ => ⟨S16384x512, .f32⟩
  | .hbm, ⟨15, _⟩ => ⟨S16384x1024, .f32⟩
  | .hbm, ⟨16, _⟩ => ⟨S16384x3072, .f32⟩
  | .hbm, ⟨17, _⟩ => ⟨S16384x3072, .f32⟩
  | .hbm, ⟨18, _⟩ => ⟨S16384x3072, .f32⟩
  | .hbm, ⟨19, _⟩ => ⟨S_, .f32⟩
  | .hbm, ⟨20, _⟩ => ⟨S16384x3072, .f32⟩
  | .hbm, ⟨21, _⟩ => ⟨S16384x3072, .f32⟩
  | .hbm, ⟨22, _⟩ => ⟨S_, .f32⟩
  | .hbm, ⟨23, _⟩ => ⟨S16384x3072, .f32⟩
  | .hbm, ⟨24, _⟩ => ⟨S16384x3072, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.FwdRun.lean ====
/- The run of the forward retention's reference, stated over its trips: a valuation that holds a state goes to one that holds the next
   state, and the result is the last state's. -/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v97_8) = s.main_v97_8
  f_9 : V0 (Proc.devRef .tc main_v97_9) = s.main_v97_9
  f_0 : V0 (Proc.devRef .tc main_v97_0) = s.main_v97_0
  f_1 : V0 (Proc.devRef .tc main_v97_1) = s.main_v97_1
  f_2 : V0 (Proc.devRef .tc main_v97_2) = s.main_v97_2
  f_3 : V0 (Proc.devRef .tc main_v97_3) = s.main_v97_3
  f_4 : V0 (Proc.devRef .tc main_v97_4) = s.main_v97_4
  f_5 : V0 (Proc.devRef .tc main_v97_5) = s.main_v97_5
  f_6 : V0 (Proc.devRef .tc main_v97_6) = s.main_v97_6
  n_7 : V0 (Proc.devRef .tc main_v97_7) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call1_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x2x128x8x64 (V0 (Proc.devRef .tc main_v97_0)) (fun k => (((![V0 (Proc.devRef .tc main_v97_7), constantI S_ 32 0#32, constantI S_ 32 0#32, constantI S_ 32 0#32, constantI S_ 32 0#32] : Fin 5 → (⟨S_, .i32⟩ : BufTy).Contents (Elt F))) k (Shape.Idx.first h_S_)).toInt) sliceFits_S64x2x128x8x64_S1x2x128x8x64 : (Proc.devRef .tc main_while0b_call1_v0 : DevRef τ sig).ty.Contents (Elt F)) = Cert.ReferenceIdeal.Step.b4 j s := by
  unfold Cert.ReferenceIdeal.Step.b4
  rw [← al_0 h, ← al_1 h, ← al_2 h, ← al_3 h, h.f_0, h.n_7]
  try rfl
set_option maxRecDepth 8192 in
theorem al_5 (h : Holds V0 s j) : (res_main_while0b_v101 V0 : (Proc.devRef .tc main_while0b_v101 : DevRef τ sig).ty.Contents (Elt F)) = Cert.ReferenceIdeal.Step.b5 j s := by
  unfold res_main_while0b_v101 Cert.ReferenceIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call2_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call2_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call2_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x128x8x64 (V0 (Proc.devRef .tc main_v97_1)) (fun k => (((![V0 (Proc.devRef .tc main_v97_7), constantI S_ 32 0#32, constantI S_ 32 0#32, constantI S_ 32 0#32, constantI S_ 32 0#32] : Fin 5 → (⟨S_, .i32⟩ : BufTy).Contents (Elt F))) k (Shape.Idx.first h_S_)).toInt) sliceFits_S64x2x128x8x64_S1x2x128x8x64 : (Proc.devRef .tc main_while0b_call2_v0 : DevRef τ sig).ty.Contents (Elt F)) = Cert.ReferenceIdeal.Step.b10 j s := by
  unfold Cert.ReferenceIdeal.Step.b10
  rw [← al_6 h, ← al_7 h, ← al_8 h, ← al_9 h, h.f_1, h.n_7]
  try rfl
set_option maxRecDepth 8192 in
theorem al_11 (h : Holds V0 s j) : (res_main_while0b_v102 V0 : (Proc.devRef .tc main_while0b_v102 : DevRef τ sig).ty.Contents (Elt F)) = Cert.ReferenceIdeal.Step.b11 j s := by
  unfold res_main_while0b_v102 Cert.ReferenceIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call3_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call3_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call3_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x128x8x128 (V0 (Proc.devRef .tc main_v97_2)) (fun k => (((![V0 (Proc.devRef .tc main_v97_7), constantI S_ 32 0#32, constantI S_ 32 0#32, constantI S_ 32 0#32, constantI S_ 32 0#32] : Fin 5 → (⟨S_, .i32⟩ : BufTy).Contents (Elt F))) k (Shape.Idx.first h_S_)).toInt) sliceFits_S64x2x128x8x128_S1x2x128x8x128 : (Proc.devRef .tc main_while0b_call3_v0 : DevRef τ sig).ty.Contents (Elt F)) = Cert.ReferenceIdeal.Step.b16 j s := by
  unfold Cert.ReferenceIdeal.Step.b16
  rw [← al_12 h, ← al_13 h, ← al_14 h, ← al_15 h, h.f_2, h.n_7]
  try rfl
set_option maxRecDepth 8192 in
theorem al_17 (h : Holds V0 s j) : (res_main_while0b_v103 V0 : (Proc.devRef .tc main_while0b_v103 : DevRef τ sig).ty.Contents (Elt F)) = Cert.ReferenceIdeal.Step.b17 j s := by
  unfold res_main_while0b_v103 Cert.ReferenceIdeal.Step.b17
  rw [← al_16 h]
  try rfl
set_option maxRecDepth 8192 in
theorem al_18 (h : Holds V0 s j) : (Host.dotGeneral dot_S2x128x8x64_S2x128x8x64_S2x8x128x128_3_3_1_1_02_02 none (res_main_while0b_v101 V0) (res_main_while0b_v102 V0) : (Proc.devRef .tc main_while0b_v104 : DevRef τ sig).ty.Contents (Elt F)) = Cert.ReferenceIdeal.Step.b18 j s := by
  unfold Cert.ReferenceIdeal.Step.b18
  rw [← al_5 h, ← al_11 h]
  try rfl
set_option maxRecDepth 8192 in
theorem al_19 (h : Holds V0 s j) : (broadcastInDim S1x8x128x128 ![1, 2, 3] bcast_S8x128x128_S1x8x128x128_1_2_3 (V0 (Proc.devRef .tc main_v97_3)) : (Proc.devRef .tc main_while0b_v105 : DevRef τ sig).ty.Contents (Elt F)) = Cert.ReferenceIdeal.Step.b19 j s := by
  unfold Cert.ReferenceIdeal.Step.b19
  rw [h.f_3]
  try rfl
set_option maxRecDepth 8192 in
theorem al_20 (h : Holds V0 s j) : (broadcastInDim S2x8x128x128 ![0, 1, 2, 3] bcast_S1x8x128x128_S2x8x128x128_0_1_2_3 (broadcastInDim S1x8x128x128 ![1, 2, 3] bcast_S8x128x128_S1x8x128x128_1_2_3 (V0 (Proc.devRef .tc main_v97_3))) : (Proc.devRef .tc main_while0b_v106 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (mulf (Host.dotGeneral dot_S2x128x8x64_S2x128x8x64_S2x8x128x128_3_3_1_1_02_02 none (res_main_while0b_v101 V0) (res_main_while0b_v102 V0)) (broadcastInDim S2x8x128x128 ![0, 1, 2, 3] bcast_S1x8x128x128_S2x8x128x128_0_1_2_3 (broadcastInDim S1x8x128x128 ![1, 2, 3] bcast_S8x128x128_S1x8x128x128_1_2_3 (V0 (Proc.devRef .tc main_v97_3)))) : (Proc.devRef .tc main_while0b_v107 : DevRef τ sig).ty.Contents (Elt F)) = Cert.ReferenceIdeal.Step.b21 j s := by
  unfold Cert.ReferenceIdeal.Step.b21
  rw [← al_18 h, ← al_20 h]
  try rfl
set_option maxRecDepth 8192 in
theorem al_22 (h : Holds V0 s j) : (Host.dotGeneral dot_S2x128x8x128_S2x8x128x128_S2x8x128x128_1_3_3_2_02_01 none (res_main_while0b_v103 V0) (mulf (Host.dotGeneral dot_S2x128x8x64_S2x128x8x64_S2x8x128x128_3_3_1_1_02_02 none (res_main_while0b_v101 V0) (res_main_while0b_v102 V0)) (broadcastInDim S2x8x128x128 ![0, 1, 2, 3] bcast_S1x8x128x128_S2x8x128x128_0_1_2_3 (broadcastInDim S1x8x128x128 ![1, 2, 3] bcast_S8x128x128_S1x8x128x128_1_2_3 (V0 (Proc.devRef .tc main_v97_3))))) : (Proc.devRef .tc main_while0b_v108 : DevRef τ sig).ty.Contents (Elt F)) = Cert.ReferenceIdeal.Step.b22 j s := by
  unfold Cert.ReferenceIdeal.Step.b22
  rw [← al_17 h, ← al_21 h]
  try rfl
set_option maxRecDepth 8192 in
theorem al_23 (h : Holds V0 s j) : (transpose S2x128x8x128 [0, 3, 1, 2] (Host.dotGeneral dot_S2x128x8x128_S2x8x128x128_S2x8x128x128_1_3_3_2_02_01 none (res_main_while0b_v103 V0) (mulf (Host.dotGeneral dot_S2x128x8x64_S2x128x8x64_S2x8x128x128_3_3_1_1_02_02 none (res_main_while0b_v101 V0) (res_main_while0b_v102 V0)) (broadcastInDim S2x8x128x128 ![0, 1, 2, 3] bcast_S1x8x128x128_S2x8x128x128_0_1_2_3 (broadcastInDim S1x8x128x128 ![1, 2, 3] bcast_S8x128x128_S1x8x128x128_1_2_3 (V0 (Proc.devRef .tc main_v97_3)))))) transposes_S2x8x128x128_S2x128x8x128_0_3_1_2 : (Proc.devRef .tc main_while0b_v109 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (broadcastInDim S1x128x8x1 ![1, 2, 3] bcast_S128x8x1_S1x128x8x1_1_2_3 (V0 (Proc.devRef .tc main_v97_4)) : (Proc.devRef .tc main_while0b_v110 : DevRef τ sig).ty.Contents (Elt F)) = Cert.ReferenceIdeal.Step.b24 j s := by
  unfold Cert.ReferenceIdeal.Step.b24
  rw [h.f_4]
  try rfl
set_option maxRecDepth 8192 in
theorem al_25 (h : Holds V0 s j) : (broadcastInDim S2x128x8x64 ![0, 1, 2, 3] bcast_S1x128x8x1_S2x128x8x64_0_1_2_3 (broadcastInDim S1x128x8x1 ![1, 2, 3] bcast_S128x8x1_S1x128x8x1_1_2_3 (V0 (Proc.devRef .tc main_v97_4))) : (Proc.devRef .tc main_while0b_v111 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (mulf (res_main_while0b_v101 V0) (broadcastInDim S2x128x8x64 ![0, 1, 2, 3] bcast_S1x128x8x1_S2x128x8x64_0_1_2_3 (broadcastInDim S1x128x8x1 ![1, 2, 3] bcast_S128x8x1_S1x128x8x1_1_2_3 (V0 (Proc.devRef .tc main_v97_4)))) : (Proc.devRef .tc main_while0b_v112 : DevRef τ sig).ty.Contents (Elt F)) = Cert.ReferenceIdeal.Step.b26 j s := by
  unfold Cert.ReferenceIdeal.Step.b26
  rw [← al_5 h, ← al_25 h]
  try rfl
set_option maxRecDepth 8192 in
theorem al_27 (h : Holds V0 s j) : (Host.dotGeneral dot_S2x8x64x128_S2x128x8x64_S2x8x128x128_2_3_3_1_01_02 none (V0 (Proc.devRef .tc main_v97_8)) (mulf (res_main_while0b_v101 V0) (broadcastInDim S2x128x8x64 ![0, 1, 2, 3] bcast_S1x128x8x1_S2x128x8x64_0_1_2_3 (broadcastInDim S1x128x8x1 ![1, 2, 3] bcast_S128x8x1_S1x128x8x1_1_2_3 (V0 (Proc.devRef .tc main_v97_4))))) : (Proc.devRef .tc main_while0b_v113 : DevRef τ sig).ty.Contents (Elt F)) = Cert.ReferenceIdeal.Step.b27 j s := by
  unfold Cert.ReferenceIdeal.Step.b27
  rw [← al_26 h, h.f_8]
  try rfl
set_option maxRecDepth 8192 in
theorem al_28 (h : Holds V0 s j) : (transpose S2x128x8x128 [0, 3, 1, 2] (Host.dotGeneral dot_S2x8x64x128_S2x128x8x64_S2x8x128x128_2_3_3_1_01_02 none (V0 (Proc.devRef .tc main_v97_8)) (mulf (res_main_while0b_v101 V0) (broadcastInDim S2x128x8x64 ![0, 1, 2, 3] bcast_S1x128x8x1_S2x128x8x64_0_1_2_3 (broadcastInDim S1x128x8x1 ![1, 2, 3] bcast_S128x8x1_S1x128x8x1_1_2_3 (V0 (Proc.devRef .tc main_v97_4)))))) transposes_S2x8x128x128_S2x128x8x128_0_3_1_2 : (Proc.devRef .tc main_while0b_v114 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (broadcastInDim S1x128x8x1 ![1, 2, 3] bcast_S128x8x1_S1x128x8x1_1_2_3 (V0 (Proc.devRef .tc main_v97_5)) : (Proc.devRef .tc main_while0b_v115 : DevRef τ sig).ty.Contents (Elt F)) = Cert.ReferenceIdeal.Step.b29 j s := by
  unfold Cert.ReferenceIdeal.Step.b29
  rw [h.f_5]
  try rfl
set_option maxRecDepth 8192 in
theorem al_30 (h : Holds V0 s j) : (broadcastInDim S2x128x8x64 ![0, 1, 2, 3] bcast_S1x128x8x1_S2x128x8x64_0_1_2_3 (broadcastInDim S1x128x8x1 ![1, 2, 3] bcast_S128x8x1_S1x128x8x1_1_2_3 (V0 (Proc.devRef .tc main_v97_5))) : (Proc.devRef .tc main_while0b_v116 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (mulf (res_main_while0b_v102 V0) (broadcastInDim S2x128x8x64 ![0, 1, 2, 3] bcast_S1x128x8x1_S2x128x8x64_0_1_2_3 (broadcastInDim S1x128x8x1 ![1, 2, 3] bcast_S128x8x1_S1x128x8x1_1_2_3 (V0 (Proc.devRef .tc main_v97_5)))) : (Proc.devRef .tc main_while0b_v117 : DevRef τ sig).ty.Contents (Elt F)) = Cert.ReferenceIdeal.Step.b31 j s := by
  unfold Cert.ReferenceIdeal.Step.b31
  rw [← al_11 h, ← al_30 h]
  try rfl
set_option maxRecDepth 8192 in
theorem al_32 (h : Holds V0 s j) : (Host.dotGeneral dot_S2x128x8x64_S2x128x8x128_S2x8x64x128_1_1_3_3_02_02 none (mulf (res_main_while0b_v102 V0) (broadcastInDim S2x128x8x64 ![0, 1, 2, 3] bcast_S1x128x8x1_S2x128x8x64_0_1_2_3 (broadcastInDim S1x128x8x1 ![1, 2, 3] bcast_S128x8x1_S1x128x8x1_1_2_3 (V0 (Proc.devRef .tc main_v97_5))))) (res_main_while0b_v103 V0) : (Proc.devRef .tc main_while0b_v118 : DevRef τ sig).ty.Contents (Elt F)) = Cert.ReferenceIdeal.Step.b32 j s := by
  unfold Cert.ReferenceIdeal.Step.b32
  rw [← al_31 h, ← al_17 h]
  try rfl
set_option maxRecDepth 8192 in
theorem al_33 (h : Holds V0 s j) : (broadcastInDim S2x8x64x128 ![0, 1, 2, 3] bcast_S1x8x1x1_S2x8x64x128_0_1_2_3 (V0 (Proc.devRef .tc main_v97_6)) : (Proc.devRef .tc main_while0b_v119 : DevRef τ sig).ty.Contents (Elt F)) = Cert.ReferenceIdeal.Step.b33 j s := by
  unfold Cert.ReferenceIdeal.Step.b33
  rw [h.f_6]
  try rfl
set_option maxRecDepth 8192 in
theorem al_34 (h : Holds V0 s j) : (mulf (broadcastInDim S2x8x64x128 ![0, 1, 2, 3] bcast_S1x8x1x1_S2x8x64x128_0_1_2_3 (V0 (Proc.devRef .tc main_v97_6))) (V0 (Proc.devRef .tc main_v97_8)) : (Proc.devRef .tc main_while0b_v120 : DevRef τ sig).ty.Contents (Elt F)) = Cert.ReferenceIdeal.Step.b34 j s := by
  unfold Cert.ReferenceIdeal.Step.b34
  rw [← al_33 h, h.f_8]
  try rfl
set_option maxRecDepth 8192 in
theorem al_35 (h : Holds V0 s j) : (addf (mulf (broadcastInDim S2x8x64x128 ![0, 1, 2, 3] bcast_S1x8x1x1_S2x8x64x128_0_1_2_3 (V0 (Proc.devRef .tc main_v97_6))) (V0 (Proc.devRef .tc main_v97_8))) (Host.dotGeneral dot_S2x128x8x64_S2x128x8x128_S2x8x64x128_1_1_3_3_02_02 none (mulf (res_main_while0b_v102 V0) (broadcastInDim S2x128x8x64 ![0, 1, 2, 3] bcast_S1x128x8x1_S2x128x8x64_0_1_2_3 (broadcastInDim S1x128x8x1 ![1, 2, 3] bcast_S128x8x1_S1x128x8x1_1_2_3 (V0 (Proc.devRef .tc main_v97_5))))) (res_main_while0b_v103 V0)) : (Proc.devRef .tc main_while0b_v121 : DevRef τ sig).ty.Contents (Elt F)) = Cert.ReferenceIdeal.Step.b35 j s := by
  unfold Cert.ReferenceIdeal.Step.b35
  rw [← al_34 h, ← al_32 h]
  try rfl
set_option maxRecDepth 8192 in
theorem al_36 (h : Holds V0 s j) : (addf (transpose S2x128x8x128 [0, 3, 1, 2] (Host.dotGeneral dot_S2x128x8x128_S2x8x128x128_S2x8x128x128_1_3_3_2_02_01 none (res_main_while0b_v103 V0) (mulf (Host.dotGeneral dot_S2x128x8x64_S2x128x8x64_S2x8x128x128_3_3_1_1_02_02 none (res_main_while0b_v101 V0) (res_main_while0b_v102 V0)) (broadcastInDim S2x8x128x128 ![0, 1, 2, 3] bcast_S1x8x128x128_S2x8x128x128_0_1_2_3 (broadcastInDim S1x8x128x128 ![1, 2, 3] bcast_S8x128x128_S1x8x128x128_1_2_3 (V0 (Proc.devRef .tc main_v97_3)))))) transposes_S2x8x128x128_S2x128x8x128_0_3_1_2) (transpose S2x128x8x128 [0, 3, 1, 2] (Host.dotGeneral dot_S2x8x64x128_S2x128x8x64_S2x8x128x128_2_3_3_1_01_02 none (V0 (Proc.devRef .tc main_v97_8)) (mulf (res_main_while0b_v101 V0) (broadcastInDim S2x128x8x64 ![0, 1, 2, 3] bcast_S1x128x8x1_S2x128x8x64_0_1_2_3 (broadcastInDim S1x128x8x1 ![1, 2, 3] bcast_S128x8x1_S1x128x8x1_1_2_3 (V0 (Proc.devRef .tc main_v97_4)))))) transposes_S2x8x128x128_S2x128x8x128_0_3_1_2) : (Proc.devRef .tc main_while0b_v122 : DevRef τ sig).ty.Contents (Elt F)) = Cert.ReferenceIdeal.Step.b36 j s := by
  unfold Cert.ReferenceIdeal.Step.b36
  rw [← al_23 h, ← al_28 h]
  try rfl
set_option maxRecDepth 8192 in
theorem al_37 (h : Holds V0 s j) : (broadcastInDim S1x2x128x8x128 ![1, 2, 3, 4] bcast_S2x128x8x128_S1x2x128x8x128_1_2_3_4 (addf (transpose S2x128x8x128 [0, 3, 1, 2] (Host.dotGeneral dot_S2x128x8x128_S2x8x128x128_S2x8x128x128_1_3_3_2_02_01 none (res_main_while0b_v103 V0) (mulf (Host.dotGeneral dot_S2x128x8x64_S2x128x8x64_S2x8x128x128_3_3_1_1_02_02 none (res_main_while0b_v101 V0) (res_main_while0b_v102 V0)) (broadcastInDim S2x8x128x128 ![0, 1, 2, 3] bcast_S1x8x128x128_S2x8x128x128_0_1_2_3 (broadcastInDim S1x8x128x128 ![1, 2, 3] bcast_S8x128x128_S1x8x128x128_1_2_3 (V0 (Proc.devRef .tc main_v97_3)))))) transposes_S2x8x128x128_S2x128x8x128_0_3_1_2) (transpose S2x128x8x128 [0, 3, 1, 2] (Host.dotGeneral dot_S2x8x64x128_S2x128x8x64_S2x8x128x128_2_3_3_1_01_02 none (V0 (Proc.devRef .tc main_v97_8)) (mulf (res_main_while0b_v101 V0) (broadcastInDim S2x128x8x64 ![0, 1, 2, 3] bcast_S1x128x8x1_S2x128x8x64_0_1_2_3 (broadcastInDim S1x128x8x1 ![1, 2, 3] bcast_S128x8x1_S1x128x8x1_1_2_3 (V0 (Proc.devRef .tc main_v97_4)))))) transposes_S2x8x128x128_S2x128x8x128_0_3_1_2)) : (Proc.devRef .tc main_while0b_call4_v0 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (constantI S_ 32 0#32 : (Proc.devRef .tc main_while0b_call4_c : DevRef τ sig).ty.Contents (Elt F)) = Cert.ReferenceIdeal.Step.b38 j s := by
  unfold Cert.ReferenceIdeal.Step.b38
  rfl
set_option maxRecDepth 8192 in
theorem al_39 (h : Holds V0 s j) : (constantI S_ 32 0#32 : (Proc.devRef .tc main_while0b_call4_c_0 : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call4_c_1 : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call4_c_2 : DevRef τ sig).ty.Contents (Elt F)) = Cert.ReferenceIdeal.Step.b41 j s := by
  unfold Cert.ReferenceIdeal.Step.b41
  rfl
set_option maxRecDepth 8192 in
theorem al_42 (h : Holds V0 s j) : (Host.dynamicUpdateSlice (V0 (Proc.devRef .tc main_v97_9)) (broadcastInDim S1x2x128x8x128 ![1, 2, 3, 4] bcast_S2x128x8x128_S1x2x128x8x128_1_2_3_4 (addf (transpose S2x128x8x128 [0, 3, 1, 2] (Host.dotGeneral dot_S2x128x8x128_S2x8x128x128_S2x8x128x128_1_3_3_2_02_01 none (res_main_while0b_v103 V0) (mulf (Host.dotGeneral dot_S2x128x8x64_S2x128x8x64_S2x8x128x128_3_3_1_1_02_02 none (res_main_while0b_v101 V0) (res_main_while0b_v102 V0)) (broadcastInDim S2x8x128x128 ![0, 1, 2, 3] bcast_S1x8x128x128_S2x8x128x128_0_1_2_3 (broadcastInDim S1x8x128x128 ![1, 2, 3] bcast_S8x128x128_S1x8x128x128_1_2_3 (V0 (Proc.devRef .tc main_v97_3)))))) transposes_S2x8x128x128_S2x128x8x128_0_3_1_2) (transpose S2x128x8x128 [0, 3, 1, 2] (Host.dotGeneral dot_S2x8x64x128_S2x128x8x64_S2x8x128x128_2_3_3_1_01_02 none (V0 (Proc.devRef .tc main_v97_8)) (mulf (res_main_while0b_v101 V0) (broadcastInDim S2x128x8x64 ![0, 1, 2, 3] bcast_S1x128x8x1_S2x128x8x64_0_1_2_3 (broadcastInDim S1x128x8x1 ![1, 2, 3] bcast_S128x8x1_S1x128x8x1_1_2_3 (V0 (Proc.devRef .tc main_v97_4)))))) transposes_S2x8x128x128_S2x128x8x128_0_3_1_2))) (fun k => (((![V0 (Proc.devRef .tc main_v97_7), constantI S_ 32 0#32, constantI S_ 32 0#32, constantI S_ 32 0#32, constantI S_ 32 0#32] : Fin 5 → (⟨S_, .i32⟩ : BufTy).Contents (Elt F))) k (Shape.Idx.first h_S_)).toInt) updateFits_S64x2x128x8x128_S1x2x128x8x128 : (Proc.devRef .tc main_while0b_v123 : DevRef τ sig).ty.Contents (Elt F)) = Cert.ReferenceIdeal.Step.b42 j s := by
  unfold Cert.ReferenceIdeal.Step.b42
  rw [← al_37 h, ← al_38 h, ← al_39 h, ← al_40 h, ← al_41 h, h.f_9, h.n_7]
  try rfl

/-! One trip's step of the carried values is `step`, field by field; a counter steps to the next number. -/

theorem step_8 (h : Holds V0 s j) : step_main_v97_8 V0 = (step j s).main_v97_8 := by
  unfold step_main_v97_8 Cert.ReferenceIdeal.Step.step
  show id (addf (mulf (broadcastInDim S2x8x64x128 ![0, 1, 2, 3] bcast_S1x8x1x1_S2x8x64x128_0_1_2_3 (V0 (Proc.devRef .tc main_v97_6))) (V0 (Proc.devRef .tc main_v97_8))) (Host.dotGeneral dot_S2x128x8x64_S2x128x8x128_S2x8x64x128_1_1_3_3_02_02 none (mulf (res_main_while0b_v102 V0) (broadcastInDim S2x128x8x64 ![0, 1, 2, 3] bcast_S1x128x8x1_S2x128x8x64_0_1_2_3 (broadcastInDim S1x128x8x1 ![1, 2, 3] bcast_S128x8x1_S1x128x8x1_1_2_3 (V0 (Proc.devRef .tc main_v97_5))))) (res_main_while0b_v103 V0))) = _
  rw [al_35 h]
  try rfl
theorem step_9 (h : Holds V0 s j) : step_main_v97_9 V0 = (step j s).main_v97_9 := by
  unfold step_main_v97_9 Cert.ReferenceIdeal.Step.step
  exact al_42 h
theorem step_7 (h : Holds V0 s j) : step_main_v97_7 V0 = constantI S_ 32 (BitVec.ofNat 32 (j + 1)) := by
  unfold step_main_v97_7
  rw [h.n_7]
  funext i
  show BitVec.ofNat 32 j + 1#32 = BitVec.ofNat 32 (j + 1)
  simp only [BitVec.ofNat_add]

set_option maxRecDepth 8192 in
theorem out_main_v100_holds (h : Holds V0 s j) : out_main_v100 V0 = Cert.ReferenceIdeal.Step.R_main_v100 s := by
  unfold out_main_v100 Cert.ReferenceIdeal.Step.R_main_v100
  rw [h.f_9]
  try rfl

/-- One trip keeps the valuation holding: `step` of the state, the same set-up values, the next number. -/
theorem holds_step (h : Holds V0 s j) : Holds (STEP V0) (step j s) (j + 1) where
  f_8 := (STEP_main_v97_8 V0).trans (step_8 h)
  f_9 := (STEP_main_v97_9 V0).trans (step_9 h)
  n_7 := (STEP_main_v97_7 V0).trans (step_7 h)
  f_0 := (STEP_main_v97_0 V0).trans h.f_0
  f_1 := (STEP_main_v97_1 V0).trans h.f_1
  f_2 := (STEP_main_v97_2 V0).trans h.f_2
  f_3 := (STEP_main_v97_3 V0).trans h.f_3
  f_4 := (STEP_main_v97_4 V0).trans h.f_4
  f_5 := (STEP_main_v97_5 V0).trans h.f_5
  f_6 := (STEP_main_v97_6 V0).trans h.f_6

/-- The state the first trip starts from, of the memory the run starts from. -/
abbrev initState (m : (ℓ : Loc nD τ sig) → Buf (Elt F) ℓ) (c : Dev nD) : State F :=
  init (m ((c.tc : Thread nD τ).loc main_arg4)) (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v100) = Cert.ReferenceIdeal.Step.R_main_v100 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 64
    ⟨(h c).1.trans (out_main_v100_holds hk), (h c).2.1, (h c).2.2.1, (h c).2.2.2.1, (h c).2.2.2.2.1, (h c).2.2.2.2.2⟩) (Value.run m ρ)

end Cert.ReferenceIdeal.Trips

end
-- ==== Proof.Chunk.lean ====
/- One head of one chunk, as the kernel's body forms it: the token outputs and the state it leaves. -/
module

public import proofs.«01_k».proof.Proof.Gen.KernelIdeal
public import Idealize.ShloMosaic.Lib.Pointwise
public import Idealize.ShloMosaic.Lib.Pipeline.ValueKit

@[expose] public section

set_option maxRecDepth 16384

noncomputable section

namespace Cert.Chunk

open Idealize.ShloMosaic Idealize.ShloMosaic.TcCoe Idealize.SL.Sem
open Cert.KernelIdeal Cert.KernelIdeal.Gen

/-- The lanes of the even head of a pair. -/
def low : IVec S128x128 1 := cmpi .slt (iota .tc S128x128 32 [1] iota_S128x128_d1_w32) (broadcast S128x128 64#32)

/-- The lanes of the odd head of a pair. -/
def high : IVec S128x128 1 := xori low (constantI S128x128 1 1#1)

/-- The turned columns: a block of columns and its partners with the rotary tables. -/
def turn (a p c s : FVec Ideal S128x512 .f32) : FVec Ideal S128x512 .f32 :=
  addf (mulf (shapeCast S128x512 a shapeCasts_S128x512_S128x512) (shapeCast S128x512 c shapeCasts_S128x512_S128x512))
    (mulf (shapeCast S128x512 p shapeCasts_S128x512_S128x512) (shapeCast S128x512 s shapeCasts_S128x512_S128x512))

/-- The turned keys with their scale. -/
def turnK (a p c s : FVec Ideal S128x512 .f32) : FVec Ideal S128x512 .f32 :=
  mulf (turn a p c s) (broadcast S128x512 (Scalar.ofBits (F := Ideal) .f32 0x3E000000#32))

/-- One pair's lanes of a block, those of the other head set to zero. -/
def keep (mask : IVec S128x128 1) (o : ℕ) (hs : S128x512.Slices ![0, o] S128x128) (a : FVec Ideal S128x512 .f32) : FVec Ideal S128x128 .bf16 :=
  truncf .bf16 (select mask (extractStridedSlice S128x128 ![0, o] a hs) (broadcast S128x128 (Scalar.ofBits (F := Ideal) .f32 0x00000000#32))) bitsLt_bf16_f32

/-- A head's values. -/
def vals (v : FVec Ideal S128x128 .f32) : FVec Ideal S128x128 .bf16 := truncf .bf16 (shapeCast S128x128 v shapeCasts_S128x128_S128x128) bitsLt_bf16_f32

/-- What the tokens of a chunk give in one head. -/
def outC (mask : IVec S128x128 1) (o : ℕ) (hs : S128x512.Slices ![0, o] S128x128) (q qp k kp c s qd : FVec Ideal S128x512 .f32) (v : FVec Ideal S128x128 .f32)
    (dm st : FVec Ideal S1x128x128 .f32) : FVec Ideal S128x128 .f32 :=
  addf
    (matmul dot_S128x128_S128x128_S128x128_1_0_0_1_n_n none
      (truncf .bf16 (mulf
        (matmul dot_S128x128_S128x128_S128x128_1_1_0_0_n_n none (truncf .bf16 (extractStridedSlice S128x128 ![0, o] (turn q qp c s) hs) bitsLt_bf16_f32)
          (keep mask o hs (turnK k kp c s)) (constant S128x128 .f32 0x00000000#32))
        (shapeCast S128x128 dm shapeCasts_S1x128x128_S128x128)) bitsLt_bf16_f32)
      (vals v) (constant S128x128 .f32 0x00000000#32))
    (matmul dot_S128x128_S128x128_S128x128_1_0_0_1_n_n none
      (truncf .bf16 (extractStridedSlice S128x128 ![0, o] (mulf (turn q qp c s) (shapeCast S128x512 qd shapeCasts_S128x512_S128x512)) hs) bitsLt_bf16_f32)
      (truncf .bf16 (shapeCast S128x128 st shapeCasts_S1x128x128_S128x128) bitsLt_bf16_f32) (constant S128x128 .f32 0x00000000#32))

/-- The state a chunk leaves in one head. -/
def stC (mask : IVec S128x128 1) (o : ℕ) (hs : S128x512.Slices ![0, o] S128x128) (k kp c s kd : FVec Ideal S128x512 .f32) (v : FVec Ideal S128x128 .f32)
    (g st : FVec Ideal S1x128x128 .f32) : FVec Ideal S1x128x128 .f32 :=
  shapeCast S1x128x128
    (addf (mulf (shapeCast S128x128 g shapeCasts_S1x128x128_S128x128) (shapeCast S128x128 st shapeCasts_S1x128x128_S128x128))
      (matmul dot_S128x128_S128x128_S128x128_0_0_1_1_n_n none
        (keep mask o hs (mulf (turnK k kp c s) (shapeCast S128x512 kd shapeCasts_S128x512_S128x512)))
        (vals v) (constant S128x128 .f32 0x00000000#32)))
    shapeCasts_S128x128_S1x128x128

/-- A token of a chunk as a row of the block. -/
def row (c : Fin 2) (i : Fin 128) : Fin 256 := ⟨128 * c.val + i.val, by omega⟩
/-- A lane of head `h`'s pair as a column of the block of queries or keys. -/
def lane (h : Fin 8) (l : Fin 128) : Fin 512 := ⟨128 * (h.val / 2) + l.val, by omega⟩
/-- A column of head `h`'s values. -/
def col (h : Fin 8) (e : Fin 128) : Fin 1024 := ⟨128 * h.val + e.val, by omega⟩

variable (mask : IVec S128x128 1) (o : ℕ) (ho : o + 128 ≤ 512) (hs : S128x512.Slices ![0, o] S128x128) (q qp k kp c s qd kd : FVec Ideal S128x512 .f32) (v : FVec Ideal S128x128 .f32)
    (dm g st : FVec Ideal S1x128x128 .f32)

/-- Which lanes of a pair belong to head `h`. -/
abbrev own (h : Fin 8) (l : Fin 128) : Prop := l.val / 64 = h.val % 2

theorem low_at (h : Fin 8) (hh : h.val % 2 = 0) (j l : Fin 128) : low (ix2 j l) = if own h l then 1#1 else 0#1 := by
  have e : low (ix2 j l) = IntOp.cmpi CmpIPredicate.slt (BitVec.ofNat 32 l.val) 64#32 := by
    unfold low
    pointwise []
  simp only [e, own, hh]
  clear e
  revert l
  decide

theorem high_at (h : Fin 8) (hh : h.val % 2 = 1) (j l : Fin 128) : high (ix2 j l) = if own h l then 1#1 else 0#1 := by
  have e : high (ix2 j l) = (low (ix2 j l)) ^^^ 1#1 := rfl
  rw [e, low_at 0 rfl]
  simp only [own, hh]
  clear e
  revert l
  decide

theorem turn_at (i : Fin 128) (l : Fin 512) : turn q qp c s (ix2 i l) = q (ix2 i l) * c (ix2 i l) + qp (ix2 i l) * s (ix2 i l) := by
  unfold turn
  pointwise []

theorem turnK_at (i : Fin 128) (l : Fin 512) : turnK k kp c s (ix2 i l) = (k (ix2 i l) * c (ix2 i l) + kp (ix2 i l) * s (ix2 i l)) * Ideal.ofBits .f32 0x3E000000#32 := by
  have e : turnK k kp c s (ix2 i l) = turn k kp c s (ix2 i l) * Ideal.ofBits .f32 0x3E000000#32 := by
    unfold turnK
    generalize turn k kp c s = a
    pointwise []
  rw [e, turn_at]

theorem keep_at (i l : Fin 128) : keep mask o hs q (ix2 i l) = if mask (ix2 i l) = 1#1 then q (ix2 i ⟨o + l.val, by omega⟩) else 0 := by
  have e : keep mask o hs q (ix2 i l) = Scalar.select (mask (ix2 i l)) (q (ix2 i ⟨o + l.val, by omega⟩)) 0 := by
    unfold keep
    pointwise []
  rw [e]
  rfl

theorem outC_at (i e : Fin 128) : outC mask o hs q qp k kp c s qd v dm st (ix2 i e) =
    ∑ j : Fin 128, (∑ l : Fin 128, turn q qp c s (ix2 i ⟨o + l.val, by omega⟩) * keep mask o hs (turnK k kp c s) (ix2 j l)) * dm (ix3 0 i j) * v (ix2 j e) +
      ∑ l : Fin 128, turn q qp c s (ix2 i ⟨o + l.val, by omega⟩) * qd (ix2 i ⟨o + l.val, by omega⟩) * st (ix3 0 l e) := by
  unfold outC
  generalize keep mask o hs (turnK k kp c s) = kk
  generalize turn q qp c s = qq
  unfold vals
  pointwise []

theorem stC_at (z : Fin 1) (l e : Fin 128) : stC mask o hs k kp c s kd v g st (ix3 z l e) =
    g (ix3 0 l e) * st (ix3 0 l e) + ∑ j : Fin 128, keep mask o hs (mulf (turnK k kp c s) (shapeCast S128x512 kd shapeCasts_S128x512_S128x512)) (ix2 j l) * v (ix2 j e) := by
  unfold stC
  generalize keep mask o hs _ = kk
  unfold vals
  pointwise []

theorem kd_at (a : FVec Ideal S128x512 .f32) (j : Fin 128) (l : Fin 512) : mulf a (shapeCast S128x512 kd shapeCasts_S128x512_S128x512) (ix2 j l) = a (ix2 j l) * kd (ix2 j l) := by
  pointwise []

/-! The same over the blocks of a grid point: two chunks of 128 tokens, eight heads. -/

/-- The turned entry of a block. -/
def tB (X P C S : FVec Ideal S256x512 .f32) (r : Fin 256) (l : Fin 512) : EReal :=
  X (ix2 r l) * C (ix2 r l) + P (ix2 r l) * S (ix2 r l)

/-- What token `i` of chunk `c` gives in head `h`, from the state `st`. -/
def outS (X0 X1 X2 X3 : FVec Ideal S256x512 .f32) (X4 : FVec Ideal S256x1024 .f32) (X5 X6 : FVec Ideal S256x512 .f32) (X7 : FVec Ideal S8x128x128 .f32)
    (X8 : FVec Ideal S128x512 .f32) (st : Fin 8 → Fin 128 → Fin 128 → EReal) (c : Fin 2) (i : Fin 128) (h : Fin 8) (e : Fin 128) : EReal :=
  ∑ j : Fin 128, (∑ l : Fin 128, tB X0 X2 X5 X6 (row c i) (lane h l) *
      (if own h l then tB X1 X3 X5 X6 (row c j) (lane h l) * Ideal.ofBits .f32 0x3E000000#32 else 0)) * X7 (ix3 h i j) * X4 (ix2 (row c j) (col h e)) +
    ∑ l : Fin 128, tB X0 X2 X5 X6 (row c i) (lane h l) * X8 (ix2 i (lane h l)) * st h l e

/-- The state chunk `c` leaves in head `h`, from the state `st`. -/
def stS (X1 X3 : FVec Ideal S256x512 .f32) (X4 : FVec Ideal S256x1024 .f32) (X5 X6 : FVec Ideal S256x512 .f32) (X9 : FVec Ideal S128x512 .f32)
    (X10 : FVec Ideal S8x128x128 .f32) (c : Fin 2) (st : Fin 8 → Fin 128 → Fin 128 → EReal) (h : Fin 8) (l e : Fin 128) : EReal :=
  X10 (ix3 h l e) * st h l e + ∑ j : Fin 128,
    (if own h l then tB X1 X3 X5 X6 (row c j) (lane h l) * Ideal.ofBits .f32 0x3E000000#32 * X9 (ix2 j (lane h l)) else 0) * X4 (ix2 (row c j) (col h e))

/-- The state chunk `c` of the block starts from: that of the block, or what chunk 0 left. -/
def stAt (X1 X3 : FVec Ideal S256x512 .f32) (X4 : FVec Ideal S256x1024 .f32) (X5 X6 : FVec Ideal S256x512 .f32) (X9 : FVec Ideal S128x512 .f32)
    (X10 : FVec Ideal S8x128x128 .f32) (st : Fin 8 → Fin 128 → Fin 128 → EReal) (c : Fin 2) : Fin 8 → Fin 128 → Fin 128 → EReal :=
  if c.val = 0 then st else stS X1 X3 X4 X5 X6 X9 X10 0 st

variable {mask o hs q qp k kp c s qd kd v dm g st}

theorem outC_of {X0 X1 X2 X3 : FVec Ideal S256x512 .f32} {X4 : FVec Ideal S256x1024 .f32} {X5 X6 : FVec Ideal S256x512 .f32} {X7 : FVec Ideal S8x128x128 .f32}
    {X8 : FVec Ideal S128x512 .f32} {st' : Fin 8 → Fin 128 → Fin 128 → EReal} (n : Fin 2) (h : Fin 8)
    (hm : ∀ j l, mask (ix2 j l) = if own h l then 1#1 else 0#1) (ho : o = 128 * (h.val / 2))
    (hq : ∀ i l, q (ix2 i l) = X0 (ix2 (row n i) l)) (hk : ∀ i l, k (ix2 i l) = X1 (ix2 (row n i) l))
    (hqp : ∀ i l, qp (ix2 i l) = X2 (ix2 (row n i) l)) (hkp : ∀ i l, kp (ix2 i l) = X3 (ix2 (row n i) l))
    (hv : ∀ i e, v (ix2 i e) = X4 (ix2 (row n i) (col h e)))
    (hc : ∀ i l, c (ix2 i l) = X5 (ix2 (row n i) l)) (hsn : ∀ i l, s (ix2 i l) = X6 (ix2 (row n i) l))
    (hdm : ∀ i j, dm (ix3 0 i j) = X7 (ix3 h i j)) (hqd : ∀ i l, qd (ix2 i l) = X8 (ix2 i l))
    (hst : ∀ l e, st (ix3 0 l e) = st' h l e) (i i' e e' : Fin 128) (hi : i = i') (he : e = e') :
    outC mask o hs q qp k kp c s qd v dm st (ix2 i e) = outS X0 X1 X2 X3 X4 X5 X6 X7 X8 st' n i' h e' := by
  subst ho hi he
  have hk' : ∀ j l, keep mask _ hs (turnK k kp c s) (ix2 j l) = if own h l then tB X1 X3 X5 X6 (row n j) (lane h l) * Ideal.ofBits .f32 0x3E000000#32 else 0 := fun j l => by
    rw [keep_at mask _ (by omega), hm, turnK_at, hk, hkp, hc, hsn]
    by_cases w : own h l <;> simp [w, tB, lane]
  rw [outC_at mask _ (by omega), outS]
  simp only [hk', turn_at, hq, hqp, hc, hsn, hv, hdm, hqd, hst]
  rfl

theorem stC_of {X1 X3 : FVec Ideal S256x512 .f32} {X4 : FVec Ideal S256x1024 .f32} {X5 X6 : FVec Ideal S256x512 .f32} {X9 : FVec Ideal S128x512 .f32}
    {X10 : FVec Ideal S8x128x128 .f32} {st' : Fin 8 → Fin 128 → Fin 128 → EReal} (n : Fin 2) (h : Fin 8)
    (hm : ∀ j l, mask (ix2 j l) = if own h l then 1#1 else 0#1) (ho : o = 128 * (h.val / 2))
    (hk : ∀ i l, k (ix2 i l) = X1 (ix2 (row n i) l)) (hkp : ∀ i l, kp (ix2 i l) = X3 (ix2 (row n i) l))
    (hv : ∀ i e, v (ix2 i e) = X4 (ix2 (row n i) (col h e)))
    (hc : ∀ i l, c (ix2 i l) = X5 (ix2 (row n i) l)) (hsn : ∀ i l, s (ix2 i l) = X6 (ix2 (row n i) l))
    (hkd : ∀ i l, kd (ix2 i l) = X9 (ix2 i l)) (hg : ∀ l e, g (ix3 0 l e) = X10 (ix3 h l e))
    (hst : ∀ l e, st (ix3 0 l e) = st' h l e) (z : Fin 1) (l l' e e' : Fin 128) (hl : l = l') (he : e = e') :
    stC mask o hs k kp c s kd v g st (ix3 z l e) = stS X1 X3 X4 X5 X6 X9 X10 n st' h l' e' := by
  subst ho hl he
  have hk' : ∀ j l, keep mask _ hs (mulf (turnK k kp c s) (shapeCast S128x512 kd shapeCasts_S128x512_S128x512)) (ix2 j l) = if own h l then tB X1 X3 X5 X6 (row n j) (lane h l) * Ideal.ofBits .f32 0x3E000000#32 * X9 (ix2 j (lane h l)) else 0 := fun j l => by
    rw [keep_at mask _ (by omega), hm, kd_at, turnK_at, hk, hkp, hc, hsn, hkd]
    by_cases w : own h l <;> simp [w, tB, lane]
  rw [stC_at, stS]
  simp only [hk', hv, hg, hst]

open View in
/-- Where the last writes cover the whole buffer, the earlier ones are not seen. -/
theorem canon_front {s : Shape} {e : EltTy} (L' : List (Piece (Elt Ideal) s e)) :
    ∀ (L : List (Piece (Elt Ideal) s e)) (y : s.Idx) (_ : ∃ p ∈ L, y ∈ p.1.set), canon (L ++ L') y = canon L y
  | [], _, hy => by obtain ⟨p, hp, _⟩ := hy; simp at hp
  | p :: L, y, hy => by
    by_cases hm : y ∈ p.1.set
    · obtain ⟨x, rfl⟩ := (p.1.exists_idx_of_mem hm)
      exact (canon_cons_emb p.1 p.2 (L ++ L') x).trans (canon_cons_emb p.1 p.2 L x).symm
    · refine (canon_cons_of_not_mem p (L ++ L') hm).trans ((canon_front L' L y ?_).trans (canon_cons_of_not_mem p L hm).symm)
      obtain ⟨q, hq, hy⟩ := hy
      rcases List.mem_cons.mp hq with rfl | hq
      · exact absurd hy hm
      · exact ⟨q, hq, hy⟩

open View in
/-- The same for eight last writes. -/
theorem canon_eight {s : Shape} {e : EltTy} (p0 p1 p2 p3 p4 p5 p6 p7 : Piece (Elt Ideal) s e) (L' : List (Piece (Elt Ideal) s e))
    (hc : ∀ y, ∃ p ∈ [p0, p1, p2, p3, p4, p5, p6, p7], y ∈ p.1.set) (y : s.Idx) :
    canon (p0 :: p1 :: p2 :: p3 :: p4 :: p5 :: p6 :: p7 :: L') y = canon [p0, p1, p2, p3, p4, p5, p6, p7] y :=
  canon_front L' [p0, p1, p2, p3, p4, p5, p6, p7] y (hc y)

end Cert.Chunk
-- ==== Proof.Recurrence.lean ====
/- The retention recurrence on numbers, chunk by chunk: what both the kernels and the references are shown to compute. -/
module

public import Idealize.ShloMosaic.Lib.Pointwise
public import Idealize.ShloMosaic.Lib.Pipeline.ValueKit

@[expose] public section

noncomputable section

namespace Cert.Retention

open Idealize.ShloMosaic

/-- A pair of columns turned by a row of the rotary tables: what an even column becomes, else what an odd one becomes. -/
def rope (d : ℕ) (x0 x1 c s : EReal) : EReal := if d % 2 < 1 then x0 * c - x1 * s else x0 * s + x1 * c

/-- The chunk with the number `n`. -/
def cn (n : ℕ) : Fin 64 := ⟨n % 64, Nat.mod_lt _ (by decide)⟩

/-- The operands of one head of one sequence: queries, keys and values of every chunk, the decay between two tokens of a chunk,
    the decays from a chunk's start and to its end, the decay over a whole chunk and the state before the first chunk. -/
structure Head where
  q : Fin 64 → Fin 128 → Fin 64 → EReal
  k : Fin 64 → Fin 128 → Fin 64 → EReal
  v : Fin 64 → Fin 128 → Fin 128 → EReal
  dm : Fin 128 → Fin 128 → EReal
  qd : Fin 128 → EReal
  kd : Fin 128 → EReal
  gc : EReal
  s0 : Fin 64 → Fin 128 → EReal

/-- The state before chunk `n`. -/
def Head.st (H : Head) : ℕ → Fin 64 → Fin 128 → EReal
  | 0 => H.s0
  | n + 1 => fun d e => H.gc * H.st n d e + ∑ j, H.k (cn n) j d * H.kd j * H.v (cn n) j e

/-- What a token of chunk `n` gives. -/
def Head.out (H : Head) (n : Fin 64) (i e : Fin 128) : EReal :=
  (∑ j, H.v n j e * ((∑ d, H.q n i d * H.k n j d) * H.dm i j)) + ∑ d, H.st n.val d e * (H.q n i d * H.qd i)

end Cert.Retention
-- ==== Proof.RefFwd.lean ====
/- What the reference of the forward retention computes: the recurrence of `Cert.Retention`, head by head. -/
module

public import proofs.«01_k».proof.Proof.Gen.ReferenceIdeal.Step
public import proofs.«01_k».proof.Proof.Recurrence

@[expose] public section

set_option maxRecDepth 16384

noncomputable section

namespace Cert.RetFwd

open Idealize.ShloMosaic Idealize.ShloMosaic.TcCoe Idealize.SL.Sem
open Cert.Retention (rope cn Head)
open Cert.ReferenceIdeal Cert.ReferenceIdeal.Gen Cert.ReferenceIdeal.Step

/-- The even columns after the turn, from the columns in pairs. -/
def ropeE (w : FVec Ideal S2x8192x8x32x2 .f32) (C S : FVec Ideal S8192x32 .f32) : FVec Ideal S2x8192x8x32 .f32 :=
  subf (mulf (shapeCast _ (extractStridedSlice S2x8192x8x32x1 ![0, 0, 0, 0, 0] w slices_S2x8192x8x32x2_S2x8192x8x32x1_0_0_0_0_0) shapeCasts_S2x8192x8x32x1_S2x8192x8x32) (broadcastInDim S2x8192x8x32 ![0, 1, 2, 3] bcast_S1x8192x1x32_S2x8192x8x32_0_1_2_3 (broadcastInDim S1x8192x1x32 ![1, 3] bcast_S8192x32_S1x8192x1x32_1_3 C))) (mulf (shapeCast _ (extractStridedSlice S2x8192x8x32x1 ![0, 0, 0, 0, 1] w slices_S2x8192x8x32x2_S2x8192x8x32x1_0_0_0_0_1) shapeCasts_S2x8192x8x32x1_S2x8192x8x32) (broadcastInDim S2x8192x8x32 ![0, 1, 2, 3] bcast_S1x8192x1x32_S2x8192x8x32_0_1_2_3 (broadcastInDim S1x8192x1x32 ![1, 3] bcast_S8192x32_S1x8192x1x32_1_3 S)))

/-- The odd columns after the turn, from the columns in pairs. -/
def ropeO (w : FVec Ideal S2x8192x8x32x2 .f32) (C S : FVec Ideal S8192x32 .f32) : FVec Ideal S2x8192x8x32 .f32 :=
  addf (mulf (shapeCast _ (extractStridedSlice S2x8192x8x32x1 ![0, 0, 0, 0, 0] w slices_S2x8192x8x32x2_S2x8192x8x32x1_0_0_0_0_0) shapeCasts_S2x8192x8x32x1_S2x8192x8x32) (broadcastInDim S2x8192x8x32 ![0, 1, 2, 3] bcast_S1x8192x1x32_S2x8192x8x32_0_1_2_3 (broadcastInDim S1x8192x1x32 ![1, 3] bcast_S8192x32_S1x8192x1x32_1_3 S))) (mulf (shapeCast _ (extractStridedSlice S2x8192x8x32x1 ![0, 0, 0, 0, 1] w slices_S2x8192x8x32x2_S2x8192x8x32x1_0_0_0_0_1) shapeCasts_S2x8192x8x32x1_S2x8192x8x32) (broadcastInDim S2x8192x8x32 ![0, 1, 2, 3] bcast_S1x8192x1x32_S2x8192x8x32_0_1_2_3 (broadcastInDim S1x8192x1x32 ![1, 3] bcast_S8192x32_S1x8192x1x32_1_3 C)))

/-- Every head's columns turned by the rotary tables, neighbouring columns in pairs. -/
def ropeV (x : FVec Ideal S2x8192x8x64 .f32) (C S : FVec Ideal S8192x32 .f32) : FVec Ideal S2x8192x8x64 .f32 :=
  shapeCast _ (concatenate S2x8192x8x32x2 4 [⟨S2x8192x8x32x1, broadcastInDim S2x8192x8x32x1 ![0, 1, 2, 3] bcast_S2x8192x8x32_S2x8192x8x32x1_0_1_2_3 (ropeE (shapeCast _ x shapeCasts_S2x8192x8x64_S2x8192x8x32x2) C S)⟩, ⟨S2x8192x8x32x1, broadcastInDim S2x8192x8x32x1 ![0, 1, 2, 3] bcast_S2x8192x8x32_S2x8192x8x32x1_0_1_2_3 (ropeO (shapeCast _ x shapeCasts_S2x8192x8x64_S2x8192x8x32x2) C S)⟩] concatenates_S2x8192x8x32x1_S2x8192x8x32x1_S2x8192x8x32x2_d4) shapeCasts_S2x8192x8x32x2_S2x8192x8x64

/-- The turned even columns, entry by entry. -/
theorem ropeE_at (w : FVec Ideal S2x8192x8x32x2 .f32) (C S : FVec Ideal S8192x32 .f32) (b : Fin 2) (t : Fin 8192) (h : Fin 8) (p : Fin 32) :
    ropeE w C S (ix4 b t h p) = w (ix5 b t h p 0) * C (ix2 t p) - w (ix5 b t h p 1) * S (ix2 t p) := by
  unfold ropeE
  pointwise []

/-- The turned odd columns, entry by entry. -/
theorem ropeO_at (w : FVec Ideal S2x8192x8x32x2 .f32) (C S : FVec Ideal S8192x32 .f32) (b : Fin 2) (t : Fin 8192) (h : Fin 8) (p : Fin 32) :
    ropeO w C S (ix4 b t h p) = w (ix5 b t h p 0) * S (ix2 t p) + w (ix5 b t h p 1) * C (ix2 t p) := by
  unfold ropeO
  pointwise []

/-- Even and odd columns put side by side again. -/
theorem catP_at (A B : FVec Ideal S2x8192x8x32 .f32) (b : Fin 2) (t : Fin 8192) (h : Fin 8) (d : Fin 64) :
   shapeCast S2x8192x8x64 (concatenate S2x8192x8x32x2 4 [⟨S2x8192x8x32x1, broadcastInDim S2x8192x8x32x1 ![0, 1, 2, 3] bcast_S2x8192x8x32_S2x8192x8x32x1_0_1_2_3 A⟩, ⟨S2x8192x8x32x1, broadcastInDim S2x8192x8x32x1 ![0, 1, 2, 3] bcast_S2x8192x8x32_S2x8192x8x32x1_0_1_2_3 B⟩] concatenates_S2x8192x8x32x1_S2x8192x8x32x1_S2x8192x8x32x2_d4) shapeCasts_S2x8192x8x32x2_S2x8192x8x64 (ix4 b t h d) =
   if d.val % 2 < 1 then A (ix4 b t h ⟨d.val / 2, by omega⟩) else B (ix4 b t h ⟨d.val / 2, by omega⟩) := by
  pointwise []
  split <;> rfl

/-- Columns taken in pairs. -/
theorem pair_at (x : FVec Ideal S2x8192x8x64 .f32) (b : Fin 2) (t : Fin 8192) (h : Fin 8) (p : Fin 32) (z : Fin 2) :
   shapeCast S2x8192x8x32x2 x shapeCasts_S2x8192x8x64_S2x8192x8x32x2 (ix5 b t h p z) = x (ix4 b t h ⟨p.val * 2 + z.val, by omega⟩) := by
  pointwise []

/-- The turned columns, entry by entry. -/
theorem ropeV_at (x : FVec Ideal S2x8192x8x64 .f32) (C S : FVec Ideal S8192x32 .f32) (b : Fin 2) (t : Fin 8192) (h : Fin 8) (d : Fin 64) :
    ropeV x C S (ix4 b t h d) = rope d.val (x (ix4 b t h ⟨d.val / 2 * 2, by omega⟩)) (x (ix4 b t h ⟨d.val / 2 * 2 + 1, by omega⟩)) (C (ix2 t ⟨d.val / 2, by omega⟩)) (S (ix2 t ⟨d.val / 2, by omega⟩)) := by
  unfold ropeV rope
  rw [catP_at, ropeE_at, ropeO_at, pair_at, pair_at]
  rfl

variable (P : FVec Ideal S16384x7168 .f32) (C S : FVec Ideal S8192x32 .f32) (L : FVec Ideal S8 .f32)

/-- The queries are the turned first columns of the projection. -/
theorem qe : A_main_v22 (F := Ideal) P C S L = ropeV (A_main_v1 (F := Ideal) P C S L) C S := rfl
/-- The keys are the turned scaled second columns. -/
theorem ke : A_main_v47 (F := Ideal) P C S L = ropeV (A_main_v26 (F := Ideal) P C S L) C S := rfl

/-- The query columns of the projection. -/
theorem q0_at (b : Fin 2) (t : Fin 8192) (h : Fin 8) (d : Fin 64) : A_main_v1 (F := Ideal) P C S L (ix4 b t h d) = P (ix2 ⟨b.val * 8192 + t.val, by omega⟩ ⟨h.val * 64 + d.val, by omega⟩) := by
  unfold A_main_v1 A_main_v0
  pointwise []
/-- The scaled key columns of the projection. -/
theorem k0_at (b : Fin 2) (t : Fin 8192) (h : Fin 8) (d : Fin 64) : A_main_v26 (F := Ideal) P C S L (ix4 b t h d) = P (ix2 ⟨b.val * 8192 + t.val, by omega⟩ ⟨512 + (h.val * 64 + d.val), by omega⟩) * Ideal.ofBits .f32 1040187392#32 := by
  unfold A_main_v26 A_main_v24 A_main_v23 K_main_v25 K_main_cst
  pointwise []
/-- A sequence cut into chunks. -/
theorem chq_at (x : FVec Ideal S2x8192x8x64 .f32) (n : Fin 64) (b : Fin 2) (i : Fin 128) (h : Fin 8) (d : Fin 64) :
  transpose S64x2x128x8x64 [1, 0, 2, 3, 4] (shapeCast _ x shapeCasts_S2x8192x8x64_S2x64x128x8x64) transposes_S2x64x128x8x64_S64x2x128x8x64_1_0_2_3_4 (ix5 n b i h d) =
  x (ix4 b ⟨n.val * 128 + i.val, by omega⟩ h d) := by
  pointwise []

/-- The queries, chunk by chunk. -/
def qF (b : Fin 2) (h : Fin 8) (n : Fin 64) (i : Fin 128) (d : Fin 64) : EReal :=
  rope d.val (P (ix2 ⟨b.val * 8192 + (n.val * 128 + i.val), by omega⟩ ⟨h.val * 64 + d.val / 2 * 2, by omega⟩))
    (P (ix2 ⟨b.val * 8192 + (n.val * 128 + i.val), by omega⟩ ⟨h.val * 64 + (d.val / 2 * 2 + 1), by omega⟩))
    (C (ix2 ⟨n.val * 128 + i.val, by omega⟩ ⟨d.val / 2, by omega⟩)) (S (ix2 ⟨n.val * 128 + i.val, by omega⟩ ⟨d.val / 2, by omega⟩))

/-- The keys, chunk by chunk. -/
def kF (b : Fin 2) (h : Fin 8) (n : Fin 64) (i : Fin 128) (d : Fin 64) : EReal :=
  rope d.val (P (ix2 ⟨b.val * 8192 + (n.val * 128 + i.val), by omega⟩ ⟨512 + (h.val * 64 + d.val / 2 * 2), by omega⟩) * Ideal.ofBits .f32 1040187392#32)
    (P (ix2 ⟨b.val * 8192 + (n.val * 128 + i.val), by omega⟩ ⟨512 + (h.val * 64 + (d.val / 2 * 2 + 1)), by omega⟩) * Ideal.ofBits .f32 1040187392#32)
    (C (ix2 ⟨n.val * 128 + i.val, by omega⟩ ⟨d.val / 2, by omega⟩)) (S (ix2 ⟨n.val * 128 + i.val, by omega⟩ ⟨d.val / 2, by omega⟩))

/-- The decay from token `j` to token `i` of a chunk. -/
def dmF (h : Fin 8) (i j : Fin 128) : EReal :=
  if (0 : EReal) ≤ FloatOps.sitofp (F := Ideal) FTy.f32 (BitVec.ofNat 32 i.val) - FloatOps.sitofp (F := Ideal) FTy.f32 (BitVec.ofNat 32 j.val) then
    Ideal.exp (max (FloatOps.sitofp (F := Ideal) FTy.f32 (BitVec.ofNat 32 i.val) - FloatOps.sitofp (F := Ideal) FTy.f32 (BitVec.ofNat 32 j.val) : EReal) 0 * L (ix1 h))
  else 0

/-- One head of one sequence. -/
def head (S0 : FVec Ideal S2x8x64x128 .f32) (b : Fin 2) (h : Fin 8) : Head where
  q := qF P C S b h
  k := kF P C S b h
  v n j e := P (ix2 ⟨b.val * 8192 + (n.val * 128 + j.val), by omega⟩ ⟨1024 + (h.val * 128 + e.val), by omega⟩)
  dm := dmF L h
  qd i := Ideal.exp (((FloatOps.sitofp (F := Ideal) FTy.f32 (BitVec.ofNat 32 i.val) : EReal) + 1) * L (ix1 h))
  kd j := Ideal.exp ((Ideal.ofBits .f32 1123942400#32 - (FloatOps.sitofp (F := Ideal) FTy.f32 (BitVec.ofNat 32 j.val) : EReal)) * L (ix1 h))
  gc := Ideal.exp (Ideal.ofBits .f32 1124073472#32 * L (ix1 h))
  s0 d e := S0 (ix4 b h d e)

variable (S0 : FVec Ideal S2x8x64x128 .f32)

theorem q_at (n : Fin 64) (b : Fin 2) (i : Fin 128) (h : Fin 8) (d : Fin 64) :
    A_main_v91 (F := Ideal) P C S L (ix5 n b i h d) = (head P C S L S0 b h).q n i d := by
  unfold A_main_v91 A_main_v90
  rw [qe, chq_at, ropeV_at, q0_at, q0_at]
  rfl

theorem k_at (n : Fin 64) (b : Fin 2) (i : Fin 128) (h : Fin 8) (d : Fin 64) :
    A_main_v93 (F := Ideal) P C S L (ix5 n b i h d) = (head P C S L S0 b h).k n i d := by
  unfold A_main_v93 A_main_v92
  rw [ke, chq_at, ropeV_at, k0_at, k0_at]
  rfl

theorem v_at (n : Fin 64) (b : Fin 2) (i : Fin 128) (h : Fin 8) (e : Fin 128) :
    A_main_v95 (F := Ideal) P C S L (ix5 n b i h e) = (head P C S L S0 b h).v n i e := by
  pointwise [A_main_v95, A_main_v94, A_main_v49, A_main_v48]
  exact congrArg P (congrArg₂ ix2 (Fin.ext (Nat.add_assoc _ _ _)) rfl)

theorem dm_at (h : Fin 8) (i j : Fin 128) (b : Fin 2) :
    A_main_v67 (F := Ideal) P C S L (ix3 h i j) = (head P C S L S0 b h).dm i j := by
  pointwise [A_main_v67, K_main_call0_v2, K_main_call0_v0, K_main_cst_2, A_main_v66, A_main_v65, A_main_v64, A_main_v62, K_main_v63, K_main_v61, K_main_v60, K_main_v59, K_main_cst_1, K_main_v55, K_main_v54, K_main_v52, K_main_v50, K_main_v53, K_main_v51, K_main_call0_v1, K_main_v58, K_main_v57, K_main_cst_0, K_main_v56]
  simp only [head, dmF]
  split
  · rfl
  · show Ideal.ofBits .f32 0#32 = 0
    exact Ideal.ofBits_zero_f32

theorem qd_at (i : Fin 128) (h : Fin 8) (z : Fin 1) (b : Fin 2) :
    A_main_v76 (F := Ideal) P C S L (ix3 i h z) = (head P C S L S0 b h).qd i := by
  pointwise [A_main_v76, A_main_v75, A_main_v74, A_main_v73, A_main_v71, K_main_v72, K_main_v70, K_main_v69, K_main_v68, K_main_cst_3, K_main_v50]
  rfl

theorem kd_at (j : Fin 128) (h : Fin 8) (z : Fin 1) (b : Fin 2) :
    A_main_v85 (F := Ideal) P C S L (ix3 j h z) = (head P C S L S0 b h).kd j := by
  pointwise [A_main_v85, A_main_v84, A_main_v83, A_main_v82, A_main_v80, K_main_v81, K_main_v79, K_main_v78, K_main_v50, K_main_v77, K_main_cst_4]
  rfl

theorem gc_at (a : Fin 1) (h : Fin 8) (y z : Fin 1) (b : Fin 2) :
    A_main_v89 (F := Ideal) P C S L (ix4 a h y z) = (head P C S L S0 b h).gc := by
  pointwise [A_main_v89, A_main_v88, A_main_v87, K_main_v86, K_main_cst_5]
  rfl

/-- The signed value of a trip's number. -/
theorem toInt_ofNat (n : ℕ) (hn : n < 64) : (BitVec.ofNat 32 n).toInt = n := by
  rw [BitVec.toInt_ofNat', Int.bmod_def]; simp only [Nat.reducePow, Nat.cast_ofNat]; omega

/-- Along the chunks a trip's slice starts at the trip's number. -/
theorem start0_64 (n : ℕ) (hn : n < 64) (hr : S1x2x128x8x64.rank = S64x2x128x8x64.rank) :
    Host.clampedStart S64x2x128x8x64 S1x2x128x8x64 hr (fun k => BitVec.toInt ((![constantI S_ 32 (BitVec.ofNat 32 n), constantI S_ 32 0#32, constantI S_ 32 0#32, constantI S_ 32 0#32, constantI S_ 32 0#32] : Fin 5 → IVec S_ 32) k (Shape.Idx.first h_S_))) 0 = n := by
  show (min (max (BitVec.ofNat 32 n).toInt 0) ((64 - 1 : ℕ) : ℤ)).toNat = n
  rw [toInt_ofNat n hn]; omega

/-- Along the other axes it starts at zero. -/
theorem start_succ_64 (n : ℕ) (a : Fin 5) (ha : a ≠ 0) (hr : S1x2x128x8x64.rank = S64x2x128x8x64.rank) :
    Host.clampedStart S64x2x128x8x64 S1x2x128x8x64 hr (fun k => BitVec.toInt ((![constantI S_ 32 (BitVec.ofNat 32 n), constantI S_ 32 0#32, constantI S_ 32 0#32, constantI S_ 32 0#32, constantI S_ 32 0#32] : Fin 5 → IVec S_ 32) k (Shape.Idx.first h_S_))) a = 0 := by
  fin_cases a
  · exact absurd rfl ha
  all_goals rfl

/-- Along the chunks a trip's slice starts at the trip's number. -/
theorem start0_128 (n : ℕ) (hn : n < 64) (hr : S1x2x128x8x128.rank = S64x2x128x8x128.rank) :
    Host.clampedStart S64x2x128x8x128 S1x2x128x8x128 hr (fun k => BitVec.toInt ((![constantI S_ 32 (BitVec.ofNat 32 n), constantI S_ 32 0#32, constantI S_ 32 0#32, constantI S_ 32 0#32, constantI S_ 32 0#32] : Fin 5 → IVec S_ 32) k (Shape.Idx.first h_S_))) 0 = n := by
  show (min (max (BitVec.ofNat 32 n).toInt 0) ((64 - 1 : ℕ) : ℤ)).toNat = n
  rw [toInt_ofNat n hn]; omega

/-- Along the other axes it starts at zero. -/
theorem start_succ_128 (n : ℕ) (a : Fin 5) (ha : a ≠ 0) (hr : S1x2x128x8x128.rank = S64x2x128x8x128.rank) :
    Host.clampedStart S64x2x128x8x128 S1x2x128x8x128 hr (fun k => BitVec.toInt ((![constantI S_ 32 (BitVec.ofNat 32 n), constantI S_ 32 0#32, constantI S_ 32 0#32, constantI S_ 32 0#32, constantI S_ 32 0#32] : Fin 5 → IVec S_ 32) k (Shape.Idx.first h_S_))) a = 0 := by
  fin_cases a
  · exact absurd rfl ha
  all_goals rfl

section
variable (n : ℕ) (hn : n < 64) (s : State Ideal) (b : Fin 2) (h : Fin 8) (i : Fin 128) (d : Fin 64) (e : Fin 128)
include hn

/-- Trip `n` reads chunk `n` of the queries. -/
theorem b5_at : b5 n s (ix4 b i h d) = s.main_v97_0 (ix5 (cn n) b i h d) := by
  unfold b5 b4 b3 b2 b1 b0
  pointwise []
  simp only [start0_64 n hn, start_succ_64 n 1 (by decide), start_succ_64 n 2 (by decide), start_succ_64 n 3 (by decide), start_succ_64 n 4 (by decide), Nat.zero_add]
  exact congrArg _ (congrArg (fun a => ix5 a b i h d) (Fin.ext (Nat.mod_eq_of_lt hn).symm))

/-- Trip `n` reads chunk `n` of the keys. -/
theorem b11_at : b11 n s (ix4 b i h d) = s.main_v97_1 (ix5 (cn n) b i h d) := by
  unfold b11 b10 b9 b8 b7 b6
  pointwise []
  simp only [start0_64 n hn, start_succ_64 n 1 (by decide), start_succ_64 n 2 (by decide), start_succ_64 n 3 (by decide), start_succ_64 n 4 (by decide), Nat.zero_add]
  exact congrArg _ (congrArg (fun a => ix5 a b i h d) (Fin.ext (Nat.mod_eq_of_lt hn).symm))

/-- Trip `n` reads chunk `n` of the values. -/
theorem b17_at : b17 n s (ix4 b i h e) = s.main_v97_2 (ix5 (cn n) b i h e) := by
  unfold b17 b16 b15 b14 b13 b12
  pointwise []
  simp only [start0_128 n hn, start_succ_128 n 1 (by decide), start_succ_128 n 2 (by decide), start_succ_128 n 3 (by decide), start_succ_128 n 4 (by decide), Nat.zero_add]
  exact congrArg _ (congrArg (fun a => ix5 a b i h e) (Fin.ext (Nat.mod_eq_of_lt hn).symm))

/-- The state a trip leaves. -/
theorem b35_at : b35 n s (ix4 b h d e) = s.main_v97_6 (ix4 0 h 0 0) * s.main_v97_8 (ix4 b h d e)
    + ∑ j : Fin 128, s.main_v97_1 (ix5 (cn n) b j h d) * s.main_v97_5 (ix3 j h 0) * s.main_v97_2 (ix5 (cn n) b j h e) := by
  have hk := fun j => b11_at n hn s b h j d
  have hv := fun j => b17_at n hn s b h j e
  unfold b35 b34 b33 b32 b31 b30 b29
  generalize b11 n s = kc at hk ⊢
  generalize b17 n s = vc at hv ⊢
  pointwise []
  simp only [hk, hv]

/-- What a trip gives. -/
theorem b36_at : b36 n s (ix4 b i h e) =
    (∑ j : Fin 128, s.main_v97_2 (ix5 (cn n) b j h e) * ((∑ d : Fin 64, s.main_v97_0 (ix5 (cn n) b i h d) * s.main_v97_1 (ix5 (cn n) b j h d)) * s.main_v97_3 (ix3 h i j)))
    + ∑ d : Fin 64, s.main_v97_8 (ix4 b h d e) * (s.main_v97_0 (ix5 (cn n) b i h d) * s.main_v97_4 (ix3 i h 0)) := by
  have hq := fun d => b5_at n hn s b h i d
  have hk := fun j d => b11_at n hn s b h j d
  have hv := fun j => b17_at n hn s b h j e
  unfold b36 b28 b27 b26 b25 b24 b23 b22 b21 b20 b19 b18
  generalize b5 n s = qc at hq ⊢
  generalize b11 n s = kc at hk ⊢
  generalize b17 n s = vc at hv ⊢
  pointwise []
  simp only [hq, hk, hv]

/-- A trip writes its chunk of the output and keeps the others. -/
theorem b42_at (k : Fin 64) : b42 n s (ix5 k b i h e) = if (k : ℕ) = n then b36 n s (ix4 b i h e) else s.main_v97_9 (ix5 k b i h e) := by
  unfold b42 b41 b40 b39 b38 b37
  generalize b36 n s = o
  pointwise []
  simp only [start0_128 n hn, start_succ_128 n 1 (by decide), start_succ_128 n 2 (by decide), start_succ_128 n 3 (by decide), start_succ_128 n 4 (by decide), Nat.zero_add, Nat.sub_zero, Nat.zero_le, and_true]
  by_cases hk : (k : ℕ) = n
  · rw [dif_pos (by omega), if_pos hk]
  · rw [dif_neg (by omega), if_neg hk]

end

/-- The states of the loop, trip by trip. -/
def it : ℕ → State Ideal
  | 0 => init S0 P C S L
  | n + 1 => step n (it n)

/-- The loop's constants keep their values. -/
theorem it_const (n : ℕ) : (it P C S L S0 n).main_v97_0 = A_main_v91 (F := Ideal) P C S L ∧ (it P C S L S0 n).main_v97_1 = A_main_v93 (F := Ideal) P C S L
    ∧ (it P C S L S0 n).main_v97_2 = A_main_v95 (F := Ideal) P C S L ∧ (it P C S L S0 n).main_v97_3 = A_main_v67 (F := Ideal) P C S L
    ∧ (it P C S L S0 n).main_v97_4 = A_main_v76 (F := Ideal) P C S L ∧ (it P C S L S0 n).main_v97_5 = A_main_v85 (F := Ideal) P C S L
    ∧ (it P C S L S0 n).main_v97_6 = A_main_v89 (F := Ideal) P C S L := by
  induction n with
  | zero => exact ⟨rfl, rfl, rfl, rfl, rfl, rfl, rfl⟩
  | succ n ih => exact ih

/-- The state before trip `n` is the recurrence's. -/
theorem it_st (n : ℕ) (hn : n ≤ 64) (b : Fin 2) (h : Fin 8) (d : Fin 64) (e : Fin 128) :
    (it P C S L S0 n).main_v97_8 (ix4 b h d e) = (head P C S L S0 b h).st n d e := by
  induction n generalizing d e with
  | zero => rfl
  | succ n ih =>
    show (step n (it P C S L S0 n)).main_v97_8 (ix4 b h d e) = _
    obtain ⟨h0, h1, h2, h3, h4, h5, h6⟩ := it_const P C S L S0 n
    rw [step_main_v97_8, b35_at n (by omega), ih (by omega), h1, h2, h5, h6, gc_at P C S L S0 _ h _ _ b]
    simp only [k_at P C S L S0, v_at P C S L S0, kd_at P C S L S0 _ h _ b]
    rfl

/-- The output after `n` trips holds the recurrence's first `n` chunks. -/
theorem it_out (n : ℕ) (hn : n ≤ 64) (k : Fin 64) (hk : k < n) (b : Fin 2) (i : Fin 128) (h : Fin 8) (e : Fin 128) :
    (it P C S L S0 n).main_v97_9 (ix5 k b i h e) = (head P C S L S0 b h).out k i e := by
  induction n with
  | zero => omega
  | succ n ih =>
    show (step n (it P C S L S0 n)).main_v97_9 (ix5 k b i h e) = _
    rw [step_main_v97_9, b42_at n (by omega)]
    split
    · next hkn =>
      obtain ⟨h0, h1, h2, h3, h4, h5, h6⟩ := it_const P C S L S0 n
      have hc : cn n = k := Fin.ext ((Nat.mod_eq_of_lt (by omega)).trans hkn.symm)
      rw [b36_at n (by omega), h0, h1, h2, h3, h4, hc]
      simp only [q_at P C S L S0, k_at P C S L S0, v_at P C S L S0, qd_at P C S L S0 _ h _ b, dm_at P C S L S0 h _ _ b, it_st P C S L S0 n (by omega)]
      rw [← hkn]
      rfl
    · exact ih (by omega) (by omega)

/-- The reference's result: token `i` of chunk `n` of sequence `b` gives, in head `h`'s column `e`, the recurrence's output. -/
theorem result_at (b : Fin 2) (n : Fin 64) (i : Fin 128) (h : Fin 8) (e : Fin 128) :
    R_main_v100 (it P C S L S0 64) (ix2 ⟨b.val * 8192 + (n.val * 128 + i.val), by omega⟩ ⟨h.val * 128 + e.val, by omega⟩) = (head P C S L S0 b h).out n i e := by
  refine Eq.trans ?_ (it_out P C S L S0 64 le_rfl n n.isLt b i h e)
  generalize it P C S L S0 64 = s
  unfold R_main_v100
  pointwise []

end Cert.RetFwd
-- ==== Proof.HostFwd.lean ====
/- What the operands of the retention kernel hold. -/
module

public import proofs.«01_k».proof.Proof.Gen.KernelIdeal.Frame
public import Idealize.ShloMosaic.Lib.Pipeline.ValueKit
public import proofs.«01_k».proof.Proof.Chunk
public import proofs.«01_k».proof.Proof.RefFwd

@[expose] public section

set_option maxRecDepth 16384

noncomputable section

namespace Cert.KernelIdeal.Operands

open Idealize.ShloMosaic Idealize.ShloMosaic.TcCoe Idealize.SL.Sem
open Cert.KernelIdeal Cert.KernelIdeal.Gen

variable (m : (ℓ : Loc nD τ sig) → Buf (Elt Ideal) ℓ)

/-- The projected columns. -/
abbrev aP (c : Dev nD) : FVec Ideal S16384x7168 .f32 := m ((c : Thread nD τ).loc main_arg0)
/-- The cosines of the rotary table. -/
abbrev aC (c : Dev nD) : FVec Ideal S8192x32 .f32 := m ((c : Thread nD τ).loc main_arg1)
/-- The sines of the rotary table. -/
abbrev aS (c : Dev nD) : FVec Ideal S8192x32 .f32 := m ((c : Thread nD τ).loc main_arg2)
/-- The heads' logarithmic decay rates. -/
abbrev aL (c : Dev nD) : FVec Ideal S8 .f32 := m ((c : Thread nD τ).loc main_arg3)
/-- The states the sequences start with. -/
abbrev aI (c : Dev nD) : FVec Ideal S2x8x64x128 .f32 := m ((c : Thread nD τ).loc main_arg4)

/-! ## The arrays the host computes -/

set_option maxRecDepth 200000 in
/-- The projected columns followed by the partner columns of queries and keys. -/
theorem p2_at (c : Dev nD) (r : Fin 16384) (l : Fin 8192) : V m c main_v22 (ix2 r l) =
    if h : l.val < 7168 then aP m c (ix2 r ⟨l.val, h⟩)
    else if h : l.val - 7168 < 512 then
      (if (l.val - 7168) % 2 < 1 then -aP m c (ix2 r ⟨(l.val - 7168) / 2 * 2 + 1, by omega⟩) else aP m c (ix2 r ⟨(l.val - 7168) / 2 * 2, by omega⟩) : EReal)
    else (if (l.val - 7168 - 512) % 2 < 1 then -aP m c (ix2 r ⟨512 + ((l.val - 7168 - 512) / 2 * 2 + 1), by omega⟩) else aP m c (ix2 r ⟨512 + (l.val - 7168 - 512) / 2 * 2, by omega⟩) : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  pointwise []
  after_results_simp
  pointwise []
  after_results_simp
  pointwise []
  rfl

/-- The cosines, one column for each query column. -/
theorem cos_at (c : Dev nD) (r : Fin 8192) (l : Fin 512) : V m c main_v27 (ix2 r l) = aC m c (ix2 r ⟨l.val % 64 / 2, by omega⟩) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  pointwise []

/-- The sines, one column for each query column. -/
theorem sin_at (c : Dev nD) (r : Fin 8192) (l : Fin 512) : V m c main_v32 (ix2 r l) = aS m c (ix2 r ⟨l.val % 64 / 2, by omega⟩) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  pointwise []

/-- The decay inside a chunk. -/
theorem dm_at (c : Dev nD) (h : Fin 8) (i j : Fin 128) : V m c main_v66 (ix3 h i j) = Cert.RetFwd.dmF (aL m c) h i j := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  simp only [StableHlo.TRef.toBuf, StableHlo.TRef.ofBuf, cast_eq]
  pointwise []
  simp only [Cert.RetFwd.dmF]
  split
  · rfl
  · show Ideal.ofBits .f32 0#32 = 0
    exact Ideal.ofBits_zero_f32

/-- The decay from the chunk's start to a query. -/
theorem qd_at (c : Dev nD) (i : Fin 128) (l : Fin 512) : V m c main_v74 (ix2 i l) = Ideal.exp (((FloatOps.sitofp (F := Ideal) FTy.f32 (BitVec.ofNat 32 i.val) : EReal) + 1) * aL m c (ix1 ⟨l.val / 64, by omega⟩)) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  pointwise []

/-- The decay from a key to the chunk's end. -/
theorem kd_at (c : Dev nD) (i : Fin 128) (l : Fin 512) : V m c main_v82 (ix2 i l) = Ideal.exp ((Ideal.ofBits .f32 1123942400#32 - (FloatOps.sitofp (F := Ideal) FTy.f32 (BitVec.ofNat 32 i.val) : EReal)) * aL m c (ix1 ⟨l.val / 64, by omega⟩)) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  pointwise []

/-- The decay across a chunk. -/
theorem gc_at (c : Dev nD) (h : Fin 8) (d e : Fin 128) : V m c main_v87 (ix3 h d e) = Ideal.exp (Ideal.ofBits .f32 1124073472#32 * aL m c (ix1 h)) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  pointwise []

/-- Whether row `d` of the paired state belongs to head `h`, in the words the host computes. -/
def mask (d : Fin 128) (h : Fin 8) : BitVec 1 :=
      (IntOp.cmpi CmpIPredicate.eq
        (Scalar.select
          (IntOp.andi
            (IntOp.cmpi CmpIPredicate.ne
              (if BitVec.ofNat 32 d.val = 0 then (0 : BitVec 32) else if (BitVec.ofNat 32 d.val).msb = true then -1 else 1)
              (if (64#32 : BitVec 32) = 0 then (0 : BitVec 32)
              else if BitVec.msb (64#32) = true then -1 else 1))
            (IntOp.cmpi CmpIPredicate.ne
              (IntOp.remsi ArithUnit.host (BitVec.ofNat 32 d.val) (64#32)) 0#32))
          (IntOp.subi (IntOp.divsi ArithUnit.host (BitVec.ofNat 32 d.val) (64#32)) 1#32)
          (IntOp.divsi ArithUnit.host (BitVec.ofNat 32 d.val) (64#32)))
        (Scalar.select
          (IntOp.andi
            (IntOp.cmpi CmpIPredicate.ne
              (IntOp.cmpi CmpIPredicate.slt
                (IntOp.remsi ArithUnit.host (BitVec.ofNat 32 h.val)
                  (Scalar.select (IntOp.cmpi CmpIPredicate.eq (2#32) 0#32) (1#32)
                    (2#32)))
                0#32)
              (IntOp.cmpi CmpIPredicate.slt
                (Scalar.select (IntOp.cmpi CmpIPredicate.eq (2#32) 0#32) (1#32)
                  (2#32))
                0#32))
            (IntOp.cmpi CmpIPredicate.ne
              (IntOp.remsi ArithUnit.host (BitVec.ofNat 32 h.val)
                (Scalar.select (IntOp.cmpi CmpIPredicate.eq (2#32) 0#32) (1#32)
                  (2#32)))
              0#32))
          (IntOp.addi
            (IntOp.remsi ArithUnit.host (BitVec.ofNat 32 h.val)
              (Scalar.select (IntOp.cmpi CmpIPredicate.eq (2#32) 0#32) (1#32)
                (2#32)))
            (Scalar.select (IntOp.cmpi CmpIPredicate.eq (2#32) 0#32) (1#32)
              (2#32)))
          (IntOp.remsi ArithUnit.host (BitVec.ofNat 32 h.val)
            (Scalar.select (IntOp.cmpi CmpIPredicate.eq (2#32) 0#32) (1#32)
              (2#32)))))

/-- It does when `d` lies in the half of that head. -/
theorem mask_eq : ∀ (d : Fin 128) (h : Fin 8), mask d h = if d.val / 64 = h.val % 2 then 1#1 else 0#1 := by
  decide +kernel

/-- The starting state, each head's in its half of a pair. -/
theorem s0_at (c : Dev nD) (b : Fin 2) (h : Fin 8) (d e : Fin 128) : V m c main_v44 (ix4 b h d e)
    = if Cert.Chunk.own h d then aI m c (ix4 b h ⟨d.val % 64, by omega⟩ e) else (0 : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  simp only [StableHlo.TRef.toBuf, StableHlo.TRef.ofBuf, cast_eq]
  pointwise []
  after_results_simp
  refine (congrArg (fun w => Scalar.select w _ _) (mask_eq d h)).trans ?_
  by_cases hd : d.val / 64 = h.val % 2
  · rw [if_pos hd, if_pos hd]
    by_cases h1 : d.val < 64
    · simp only [dif_pos h1]
      exact congrArg (fun x => aI m c (ix4 b h x e)) (Fin.ext (by simp only []; omega))
    · simp only [dif_neg h1]
      exact congrArg (fun x => aI m c (ix4 b h x e)) (Fin.ext (by simp only []; omega))
  · rw [if_neg hd, if_neg hd]
    exact Ideal.ofBits_zero_f32
-- ==== Proof.BlockFwd.lean ====
/- What the blocks of the retention kernel hold. -/
module

public import proofs.«01_k».proof.Proof.Gen.KernelIdeal.Frame
public import Idealize.ShloMosaic.Lib.Pipeline.ValueKit
public import proofs.«01_k».proof.Proof.Chunk
public import proofs.«01_k».proof.Proof.RefFwd
public import proofs.«01_k».proof.Proof.HostFwd

@[expose] public section

set_option maxRecDepth 16384

noncomputable section

namespace Cert.KernelIdeal.Operands

open Idealize.ShloMosaic Idealize.ShloMosaic.TcCoe Idealize.SL.Sem
open Cert.KernelIdeal Cert.KernelIdeal.Gen

variable (m : (ℓ : Loc nD τ sig) → Buf (Elt Ideal) ℓ)

/-! ## Which block each window takes at a point -/

theorem idx0 : ∀ t : Fin grid0.N, win0_0.index t = ![t.val, 0] := by decide +kernel
theorem idx1 : ∀ t : Fin grid0.N, win0_1.index t = ![t.val, 1] := by decide +kernel
theorem idx2 : ∀ t : Fin grid0.N, win0_2.index t = ![t.val, 14] := by decide +kernel
theorem idx3 : ∀ t : Fin grid0.N, win0_3.index t = ![t.val, 15] := by decide +kernel
theorem idx4 : ∀ t : Fin grid0.N, win0_4.index t = ![t.val, 1] := by decide +kernel
theorem idx5 : ∀ t : Fin grid0.N, win0_5.index t = ![t.val % 32, 0] := by decide +kernel
theorem idx6 : ∀ t : Fin grid0.N, win0_6.index t = ![t.val % 32, 0] := by decide +kernel
theorem idx7 : ∀ t : Fin grid0.N, win0_7.index t = ![0, 0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0, 0] := by decide +kernel
theorem idx11 : ∀ t : Fin grid0.N, win0_11.index t = ![t.val / 32, 0, 0, 0] := by decide +kernel
theorem idx12 : ∀ t : Fin grid0.N, win0_12.index t = ![t.val, 0] := by decide +kernel

/-- The row of the columns that row `r` of a point's block is. -/
def gr (t : Fin cfg0.N) (r : Fin 256) : Fin 16384 := ⟨256 * t.val + r.val, by have := t.isLt; have : cfg0.N = 64 := rfl; omega⟩
/-- The row of the rotary tables that row `r` of a point's block is. -/
def gp (t : Fin cfg0.N) (r : Fin 256) : Fin 8192 := ⟨256 * (t.val % 32) + r.val, by omega⟩
/-- The sequence a point works on. -/
def gb (t : Fin cfg0.N) : Fin 2 := ⟨t.val / 32, by have := t.isLt; have : cfg0.N = 64 := rfl; omega⟩

section
variable (c : Dev nD) (t : Fin cfg0.N)

/-! ## The blocks as the arrays hold them -/

theorem raw0 (r : Fin 256) (l : Fin 512) : iblk m c 0 t (ix2 r l) = V m c main_v22 (ix2 (gr t r) ⟨l.val, by omega⟩) := by
  blk_ext [iblk, idx0 t, gr, gp, gb]

theorem raw1 (r : Fin 256) (l : Fin 512) : iblk m c 1 t (ix2 r l) = V m c main_v22 (ix2 (gr t r) ⟨512 + l.val, by omega⟩) := by
  blk_ext [iblk, idx1 t, gr, gp, gb]

theorem raw2 (r : Fin 256) (l : Fin 512) : iblk m c 2 t (ix2 r l) = V m c main_v22 (ix2 (gr t r) ⟨7168 + l.val, by omega⟩) := by
  blk_ext [iblk, idx2 t, gr, gp, gb]

theorem raw3 (r : Fin 256) (l : Fin 512) : iblk m c 3 t (ix2 r l) = V m c main_v22 (ix2 (gr t r) ⟨7680 + l.val, by omega⟩) := by
  blk_ext [iblk, idx3 t, gr, gp, gb]

theorem raw4 (r : Fin 256) (l : Fin 1024) : iblk m c 4 t (ix2 r l) = V m c main_v22 (ix2 (gr t r) ⟨1024 + l.val, by omega⟩) := by
  blk_ext [iblk, idx4 t, gr, gp, gb]

theorem raw5 (r : Fin 256) (l : Fin 512) : iblk m c 5 t (ix2 r l) = V m c main_v27 (ix2 (gp t r) l) := by
  blk_ext [iblk, idx5 t, gr, gp, gb]

theorem raw6 (r : Fin 256) (l : Fin 512) : iblk m c 6 t (ix2 r l) = V m c main_v32 (ix2 (gp t r) l) := by
  blk_ext [iblk, idx6 t, gr, gp, gb]

theorem raw7 (h : Fin 8) (i j : Fin 128) : iblk m c 7 t (ix3 h i j) = V m c main_v66 (ix3 h i j) := by
  blk_ext [iblk, idx7 t, gr, gp, gb]

theorem raw8 (i : Fin 128) (l : Fin 512) : iblk m c 8 t (ix2 i l) = V m c main_v74 (ix2 i l) := by
  blk_ext [iblk, idx8 t, gr, gp, gb]

theorem raw9 (i : Fin 128) (l : Fin 512) : iblk m c 9 t (ix2 i l) = V m c main_v82 (ix2 i l) := by
  blk_ext [iblk, idx9 t, gr, gp, gb]

theorem raw10 (h : Fin 8) (i j : Fin 128) : iblk m c 10 t (ix3 h i j) = V m c main_v87 (ix3 h i j) := by
  blk_ext [iblk, idx10 t, gr, gp, gb]

theorem raw11 (h : Fin 8) (d e : Fin 128) : iblk m c 11 t (ix4 0 h d e) = V m c main_v44 (ix4 (gb t) h d e) := by
  blk_ext [iblk, idx11 t, gr, gp, gb]

end
-- ==== Proof.PointFill.lean ====
/- The state given to the retention kernel, as its first grid point lays it into the scratch. -/
module

public import proofs.«01_k».proof.Proof.Gen.KernelIdeal.Frame
public import Idealize.ShloMosaic.Lib.Pipeline.ValueKit
public import Idealize.ShloMosaic.Lib.Pipeline.ReadBack
public import proofs.«01_k».proof.Proof.Chunk

@[expose] public section

set_option maxRecDepth 16384

noncomputable section

namespace Cert.KernelIdeal.Point

open Idealize.ShloMosaic Idealize.ShloMosaic.TcCoe Idealize.SL.Sem
open Cert.KernelIdeal Cert.KernelIdeal.Gen

variable (m : (ℓ : Loc nD τ sig) → Buf (Elt Ideal) ℓ)

/-- The given state, laid into the scratch. -/
theorem fill_at (X : FVec Ideal S1x8x128x128 .f32) (h : Fin 8) (d e : Fin 128) : k0_pay2 X (ix3 h d e) = X (ix4 0 h d e) := by
  unfold k0_pay2
  pointwise []

end Cert.KernelIdeal.Point
-- ==== Proof.PointOutA.lean ====
/- What a grid point of the retention kernel writes to its block of the output, from the state it starts with. -/
module

public import proofs.«01_k».proof.Proof.Gen.KernelIdeal.Frame
public import Idealize.ShloMosaic.Lib.Pipeline.ValueKit
public import Idealize.ShloMosaic.Lib.Pipeline.ReadBack
public import proofs.«01_k».proof.Proof.Chunk
public import proofs.«01_k».proof.Proof.PointFill

@[expose] public section

set_option maxRecDepth 16384

noncomputable section

namespace Cert.KernelIdeal.Point

open Idealize.ShloMosaic Idealize.ShloMosaic.TcCoe Idealize.SL.Sem
open Cert.KernelIdeal Cert.KernelIdeal.Gen

variable (m : (ℓ : Loc nD τ sig) → Buf (Elt Ideal) ℓ)

set_option maxHeartbeats 4000000 in
/-- A point's block of the output, entry by entry, at the first point of a batch row. -/
theorem outA_at (c : Dev nD) (t : Fin cfg0.N) (g0 : t.val % 32 = 0) (g1 : ¬t.val % 32 = 31) (y : S256x1024.Idx) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr g0) (fun h => g1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = Cert.Chunk.outS (iblk m c 0 t) (iblk m c 1 t) (iblk m c 2 t) (iblk m c 3 t) (iblk m c 4 t) (iblk m c 5 t) (iblk m c 6 t) (iblk m c 7 t) (iblk m c 8 t) (Cert.Chunk.stAt (iblk m c 1 t) (iblk m c 3 t) (iblk m c 4 t) (iblk m c 5 t) (iblk m c 6 t) (iblk m c 9 t) (iblk m c 10 t) (fun h d e => iblk m c 11 t (ix4 0 h d e)) ⟨(y 0).val / 128, by have := (y 0).isLt; simp at this; omega⟩)
        ⟨(y 0).val / 128, by have := (y 0).isLt; simp at this; omega⟩ ⟨(y 0).val % 128, by omega⟩ ⟨(y 1).val / 128, by have := (y 1).isLt; simp at this; omega⟩ ⟨(y 1).val % 128, by omega⟩ := by
  frame_out
  canon_tiles x h
  all_goals
    obtain ⟨i, e, rfl⟩ : ∃ i e, x = ix2 i e := ⟨x 0, x 1, by funext a; fin_cases a <;> rfl⟩
    have hi := i.isLt
    have he := e.isLt
    simp only [ix2] at h0 h1
    refine Cert.Chunk.outC_of _ _ ?_ ?_ ?_ ?_ ?_ ?_ ?_ ?_ ?_ ?_ ?_ ?_ _ _ _ _ ?_ ?_
    · first | exact Cert.Chunk.low_at _ (by simp only []; omega) | exact Cert.Chunk.high_at _ (by simp only []; omega)
    · simp only []; omega
    iterate 8
      · intro j l; refine View.ld_unit_apply_of _ _ _ _ _ _ fun a => ?_; fin_cases a <;> simp [ix2, ix3, Cert.Chunk.row, Cert.Chunk.col] <;> omega
    · intro j l; rfl
    · intro j l
      first
      | rw [Cert.Chunk.stAt, if_pos (by simp only []; omega)]
        simp +decide only [↓View.readCov_skip, ↓View.readCov_fill, read_unread_whole]
        refine (View.ld_unit_apply_of _ _ _ _ _ (ix3 ⟨(y 1).val / 128, by omega⟩ j l) fun a => ?_).trans (fill_at _ _ _ _)
        fin_cases a <;> simp [ix3] <;> omega
      | rw [Cert.Chunk.stAt, if_neg (by simp only []; omega)]
        simp +decide only [↓View.readCov_skip, ↓View.readCov_cons_toLoadRect]
        refine Cert.Chunk.stC_of _ _ ?_ ?_ ?_ ?_ ?_ ?_ ?_ ?_ ?_ ?_ _ _ _ _ _ rfl rfl
        · first | exact Cert.Chunk.low_at _ (by simp only []; omega) | exact Cert.Chunk.high_at _ (by simp only []; omega)
        · simp only []; omega
        iterate 5
          · intro j l; refine View.ld_unit_apply_of _ _ _ _ _ _ fun a => ?_; fin_cases a <;> simp [ix2, ix3, Cert.Chunk.row, Cert.Chunk.col] <;> omega
        · intro j l; rfl
        · intro j l; refine View.ld_unit_apply_of _ _ _ _ _ _ fun a => ?_; fin_cases a <;> simp [ix2, ix3, Cert.Chunk.row, Cert.Chunk.col] <;> omega
        · intro j l
          simp +decide only [↓View.readCov_skip, ↓View.readCov_fill, read_unread_whole]
          refine (View.ld_unit_apply_of _ _ _ _ _ (ix3 ⟨(y 1).val / 128, by omega⟩ j l) fun a => ?_).trans (fill_at _ _ _ _)
          fin_cases a <;> simp [ix3] <;> omega
    · apply Fin.ext; simp only []; omega
    · apply Fin.ext; simp only []; omega

end Cert.KernelIdeal.Point
-- ==== Proof.PointOutB.lean ====
/- What a grid point of the retention kernel writes to its block of the output, from the state it starts with. -/
module

public import proofs.«01_k».proof.Proof.Gen.KernelIdeal.Frame
public import Idealize.ShloMosaic.Lib.Pipeline.ValueKit
public import Idealize.ShloMosaic.Lib.Pipeline.ReadBack
public import proofs.«01_k».proof.Proof.Chunk
public import proofs.«01_k».proof.Proof.PointFill

@[expose] public section

set_option maxRecDepth 16384

noncomputable section

namespace Cert.KernelIdeal.Point

open Idealize.ShloMosaic Idealize.ShloMosaic.TcCoe Idealize.SL.Sem
open Cert.KernelIdeal Cert.KernelIdeal.Gen

variable (m : (ℓ : Loc nD τ sig) → Buf (Elt Ideal) ℓ)

set_option maxHeartbeats 4000000 in
/-- A point's block of the output, entry by entry, at a point in between. -/
theorem outB_at (c : Dev nD) (t : Fin cfg0.N) (g0 : ¬t.val % 32 = 0) (g1 : ¬t.val % 32 = 31) (acc : Vec Ideal S8x128x128 .f32) (y : S256x1024.Idx) :
    out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => g0 ((hcond0_0 t).mp h)) (fun h => g1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc y
      = Cert.Chunk.outS (iblk m c 0 t) (iblk m c 1 t) (iblk m c 2 t) (iblk m c 3 t) (iblk m c 4 t) (iblk m c 5 t) (iblk m c 6 t) (iblk m c 7 t) (iblk m c 8 t) (Cert.Chunk.stAt (iblk m c 1 t) (iblk m c 3 t) (iblk m c 4 t) (iblk m c 5 t) (iblk m c 6 t) (iblk m c 9 t) (iblk m c 10 t) (fun h d e => acc (ix3 h d e)) ⟨(y 0).val / 128, by have := (y 0).isLt; simp at this; omega⟩)
        ⟨(y 0).val / 128, by have := (y 0).isLt; simp at this; omega⟩ ⟨(y 0).val % 128, by omega⟩ ⟨(y 1).val / 128, by have := (y 1).isLt; simp at this; omega⟩ ⟨(y 1).val % 128, by omega⟩ := by
  frame_out
  canon_tiles x h
  all_goals
    obtain ⟨i, e, rfl⟩ : ∃ i e, x = ix2 i e := ⟨x 0, x 1, by funext a; fin_cases a <;> rfl⟩
    have hi := i.isLt
    have he := e.isLt
    simp only [ix2] at h0 h1
    refine Cert.Chunk.outC_of _ _ ?_ ?_ ?_ ?_ ?_ ?_ ?_ ?_ ?_ ?_ ?_ ?_ _ _ _ _ ?_ ?_
    · first | exact Cert.Chunk.low_at _ (by simp only []; omega) | exact Cert.Chunk.high_at _ (by simp only []; omega)
    · simp only []; omega
    iterate 8
      · intro j l; refine View.ld_unit_apply_of _ _ _ _ _ _ fun a => ?_; fin_cases a <;> simp [ix2, ix3, Cert.Chunk.row, Cert.Chunk.col] <;> omega
    · intro j l; rfl
    · intro j l
      first
      | rw [Cert.Chunk.stAt, if_pos (by simp only []; omega)]
        simp +decide only [↓View.readCov_skip, ↓View.readCov_fill, read_unread_whole]
        first
        | refine View.ld_unit_apply_of _ _ _ _ _ _ fun a => ?_
          fin_cases a <;> simp [ix3] <;> omega
        | refine (View.ld_unit_apply_of _ _ _ _ _ (ix3 ⟨(y 1).val / 128, by omega⟩ j l) fun a => ?_).trans (fill_at _ _ _ _)
          fin_cases a <;> simp [ix3] <;> omega
      | rw [Cert.Chunk.stAt, if_neg (by simp only []; omega)]
        simp +decide only [↓View.readCov_skip, ↓View.readCov_cons_toLoadRect]
        refine Cert.Chunk.stC_of _ _ ?_ ?_ ?_ ?_ ?_ ?_ ?_ ?_ ?_ ?_ _ _ _ _ _ rfl rfl
        · first | exact Cert.Chunk.low_at _ (by simp only []; omega) | exact Cert.Chunk.high_at _ (by simp only []; omega)
        · simp only []; omega
        iterate 5
          · intro j l; refine View.ld_unit_apply_of _ _ _ _ _ _ fun a => ?_; fin_cases a <;> simp [ix2, ix3, Cert.Chunk.row, Cert.Chunk.col] <;> omega
        · intro j l; rfl
        · intro j l; refine View.ld_unit_apply_of _ _ _ _ _ _ fun a => ?_; fin_cases a <;> simp [ix2, ix3, Cert.Chunk.row, Cert.Chunk.col] <;> omega
        · intro j l
          simp +decide only [↓View.readCov_skip, ↓View.readCov_fill, read_unread_whole]
          first
          | refine View.ld_unit_apply_of _ _ _ _ _ _ fun a => ?_
            fin_cases a <;> simp [ix3] <;> omega
          | refine (View.ld_unit_apply_of _ _ _ _ _ (ix3 ⟨(y 1).val / 128, by omega⟩ j l) fun a => ?_).trans (fill_at _ _ _ _)
            fin_cases a <;> simp [ix3] <;> omega
    · apply Fin.ext; simp only []; omega
    · apply Fin.ext; simp only []; omega

end Cert.KernelIdeal.Point
-- ==== Proof.PointOutC.lean ====
/- What a grid point of the retention kernel writes to its block of the output, from the state it starts with. -/
module

public import proofs.«01_k».proof.Proof.Gen.KernelIdeal.Frame
public import Idealize.ShloMosaic.Lib.Pipeline.ValueKit
public import Idealize.ShloMosaic.Lib.Pipeline.ReadBack
public import proofs.«01_k».proof.Proof.Chunk
public import proofs.«01_k».proof.Proof.PointFill

@[expose] public section

set_option maxRecDepth 16384

noncomputable section

namespace Cert.KernelIdeal.Point

open Idealize.ShloMosaic Idealize.ShloMosaic.TcCoe Idealize.SL.Sem
open Cert.KernelIdeal Cert.KernelIdeal.Gen

variable (m : (ℓ : Loc nD τ sig) → Buf (Elt Ideal) ℓ)

set_option maxHeartbeats 4000000 in
/-- A point's block of the output, entry by entry, at the last point of a batch row. -/
theorem outC_at (c : Dev nD) (t : Fin cfg0.N) (g0 : ¬t.val % 32 = 0) (g1 : t.val % 32 = 31) (acc : Vec Ideal S8x128x128 .f32) (y : S256x1024.Idx) :
    out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => g0 ((hcond0_0 t).mp h)) ((hcond0_1 t).mpr g1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc y
      = Cert.Chunk.outS (iblk m c 0 t) (iblk m c 1 t) (iblk m c 2 t) (iblk m c 3 t) (iblk m c 4 t) (iblk m c 5 t) (iblk m c 6 t) (iblk m c 7 t) (iblk m c 8 t) (Cert.Chunk.stAt (iblk m c 1 t) (iblk m c 3 t) (iblk m c 4 t) (iblk m c 5 t) (iblk m c 6 t) (iblk m c 9 t) (iblk m c 10 t) (fun h d e => acc (ix3 h d e)) ⟨(y 0).val / 128, by have := (y 0).isLt; simp at this; omega⟩)
        ⟨(y 0).val / 128, by have := (y 0).isLt; simp at this; omega⟩ ⟨(y 0).val % 128, by omega⟩ ⟨(y 1).val / 128, by have := (y 1).isLt; simp at this; omega⟩ ⟨(y 1).val % 128, by omega⟩ := by
  frame_out
  canon_tiles x h
  all_goals
    obtain ⟨i, e, rfl⟩ : ∃ i e, x = ix2 i e := ⟨x 0, x 1, by funext a; fin_cases a <;> rfl⟩
    have hi := i.isLt
    have he := e.isLt
    simp only [ix2] at h0 h1
    refine Cert.Chunk.outC_of _ _ ?_ ?_ ?_ ?_ ?_ ?_ ?_ ?_ ?_ ?_ ?_ ?_ _ _ _ _ ?_ ?_
    · first | exact Cert.Chunk.low_at _ (by simp only []; omega) | exact Cert.Chunk.high_at _ (by simp only []; omega)
    · simp only []; omega
    iterate 8
      · intro j l; refine View.ld_unit_apply_of _ _ _ _ _ _ fun a => ?_; fin_cases a <;> simp [ix2, ix3, Cert.Chunk.row, Cert.Chunk.col] <;> omega
    · intro j l; rfl
    · intro j l
      first
      | rw [Cert.Chunk.stAt, if_pos (by simp only []; omega)]
        simp +decide only [↓View.readCov_skip, ↓View.readCov_fill, read_unread_whole]
        first
        | refine View.ld_unit_apply_of _ _ _ _ _ _ fun a => ?_
          fin_cases a <;> simp [ix3] <;> omega
        | refine (View.ld_unit_apply_of _ _ _ _ _ (ix3 ⟨(y 1).val / 128, by omega⟩ j l) fun a => ?_).trans (fill_at _ _ _ _)
          fin_cases a <;> simp [ix3] <;> omega
      | rw [Cert.Chunk.stAt, if_neg (by simp only []; omega)]
        simp +decide only [↓View.readCov_skip, ↓View.readCov_cons_toLoadRect]
        refine Cert.Chunk.stC_of _ _ ?_ ?_ ?_ ?_ ?_ ?_ ?_ ?_ ?_ ?_ _ _ _ _ _ rfl rfl
        · first | exact Cert.Chunk.low_at _ (by simp only []; omega) | exact Cert.Chunk.high_at _ (by simp only []; omega)
        · simp only []; omega
        iterate 5
          · intro j l; refine View.ld_unit_apply_of _ _ _ _ _ _ fun a => ?_; fin_cases a <;> simp [ix2, ix3, Cert.Chunk.row, Cert.Chunk.col] <;> omega
        · intro j l; rfl
        · intro j l; refine View.ld_unit_apply_of _ _ _ _ _ _ fun a => ?_; fin_cases a <;> simp [ix2, ix3, Cert.Chunk.row, Cert.Chunk.col] <;> omega
        · intro j l
          simp +decide only [↓View.readCov_skip, ↓View.readCov_fill, read_unread_whole]
          first
          | refine View.ld_unit_apply_of _ _ _ _ _ _ fun a => ?_
            fin_cases a <;> simp [ix3] <;> omega
          | refine (View.ld_unit_apply_of _ _ _ _ _ (ix3 ⟨(y 1).val / 128, by omega⟩ j l) fun a => ?_).trans (fill_at _ _ _ _)
            fin_cases a <;> simp [ix3] <;> omega
    · apply Fin.ext; simp only []; omega
    · apply Fin.ext; simp only []; omega

end Cert.KernelIdeal.Point
-- ==== Proof.PointStateA.lean ====
/- What a grid point of the retention kernel leaves in its scratch, from the state it starts with. -/
module

public import proofs.«01_k».proof.Proof.Gen.KernelIdeal.Frame
public import Idealize.ShloMosaic.Lib.Pipeline.ValueKit
public import Idealize.ShloMosaic.Lib.Pipeline.ReadBack
public import proofs.«01_k».proof.Proof.Chunk
public import proofs.«01_k».proof.Proof.PointFill

@[expose] public section

set_option maxRecDepth 16384

noncomputable section

namespace Cert.KernelIdeal.Point

open Idealize.ShloMosaic Idealize.ShloMosaic.TcCoe Idealize.SL.Sem
open Cert.KernelIdeal Cert.KernelIdeal.Gen

variable (m : (ℓ : Loc nD τ sig) → Buf (Elt Ideal) ℓ)

set_option maxHeartbeats 4000000 in
/-- The state a point leaves, two chunks further, at the first point of a batch row. -/
theorem soutA_at (c : Dev nD) (t : Fin cfg0.N) (g0 : t.val % 32 = 0) (g1 : ¬t.val % 32 = 31) (y : S8x128x128.Idx) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr g0) (fun h => g1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = Cert.Chunk.stS (iblk m c 1 t) (iblk m c 3 t) (iblk m c 4 t) (iblk m c 5 t) (iblk m c 6 t) (iblk m c 9 t) (iblk m c 10 t) 1 (Cert.Chunk.stS (iblk m c 1 t) (iblk m c 3 t) (iblk m c 4 t) (iblk m c 5 t) (iblk m c 6 t) (iblk m c 9 t) (iblk m c 10 t) 0 (fun h d e => iblk m c 11 t (ix4 0 h d e))) (y 0) (y 1) (y 2) := by
  frame_out
  refine (Cert.Chunk.canon_eight _ _ _ _ _ _ _ _ _ (View.cover_of_tiledL _ ![1, 128, 128] (by rfl)) y).trans ?_
  canon_tiles x h
  all_goals
    obtain ⟨z, i, e, rfl⟩ : ∃ z i e, x = ix3 z i e := ⟨x 0, x 1, x 2, by funext a; fin_cases a <;> rfl⟩
    have hz := z.isLt
    have hi := i.isLt
    have he := e.isLt
    simp only [ix3] at h0 h1 h2
    refine Cert.Chunk.stC_of (k := (View.ld (iblk m c 1 t) (Rect.unit ![128, 0] ![128, 512] inb_S256x512_S128x512_128_0))) (kp := (View.ld (iblk m c 3 t) (Rect.unit ![128, 0] ![128, 512] inb_S256x512_S128x512_128_0)))
      (c := (View.ld (iblk m c 5 t) (Rect.unit ![128, 0] ![128, 512] inb_S256x512_S128x512_128_0))) (s := (View.ld (iblk m c 6 t) (Rect.unit ![128, 0] ![128, 512] inb_S256x512_S128x512_128_0))) 1 _ ?_ ?_ ?_ ?_ ?_ ?_ ?_ ?_ ?_ ?_ _ _ _ _ _ ?_ ?_
    · first | exact Cert.Chunk.low_at _ (by ((try simp only []); omega)) | exact Cert.Chunk.high_at _ (by ((try simp only []); omega))
    · (try simp only []); omega
    iterate 5
      · intro j l; refine View.ld_unit_apply_of _ _ _ _ _ _ fun a => ?_; fin_cases a <;> simp [ix2, ix3, Cert.Chunk.row, Cert.Chunk.col] <;> omega
    · intro j l; rfl
    · intro j l; refine View.ld_unit_apply_of _ _ _ _ _ _ fun a => ?_; fin_cases a <;> simp [ix2, ix3, Cert.Chunk.row, Cert.Chunk.col] <;> omega
    · intro j l
      simp +decide only [↓View.readCov_skip, ↓View.readCov_cons_toLoadRect]
      refine Cert.Chunk.stC_of 0 _ ?_ ?_ ?_ ?_ ?_ ?_ ?_ ?_ ?_ ?_ _ _ _ _ _ rfl rfl
      · first | exact Cert.Chunk.low_at _ (by ((try simp only []); omega)) | exact Cert.Chunk.high_at _ (by ((try simp only []); omega))
      · (try simp only []); omega
      iterate 5
        · intro j l; refine View.ld_unit_apply_of _ _ _ _ _ _ fun a => ?_; fin_cases a <;> simp [ix2, ix3, Cert.Chunk.row, Cert.Chunk.col] <;> omega
      · intro j l; rfl
      · intro j l; refine View.ld_unit_apply_of _ _ _ _ _ _ fun a => ?_; fin_cases a <;> simp [ix2, ix3, Cert.Chunk.row, Cert.Chunk.col] <;> omega
      · intro j l
        simp +decide only [↓View.readCov_skip, ↓View.readCov_fill, read_unread_whole]
        refine (View.ld_unit_apply_of _ _ _ _ _ (ix3 (y 0) j l) fun a => ?_).trans (fill_at _ _ _ _)
        fin_cases a <;> simp [ix3] <;> omega
    · apply Fin.ext; (try simp only []); omega
    · apply Fin.ext; (try simp only []); omega

end Cert.KernelIdeal.Point
-- ==== Proof.PointStateB.lean ====
/- What a grid point of the retention kernel leaves in its scratch, from the state it starts with. -/
module

public import proofs.«01_k».proof.Proof.Gen.KernelIdeal.Frame
public import Idealize.ShloMosaic.Lib.Pipeline.ValueKit
public import Idealize.ShloMosaic.Lib.Pipeline.ReadBack
public import proofs.«01_k».proof.Proof.Chunk
public import proofs.«01_k».proof.Proof.PointFill

@[expose] public section

set_option maxRecDepth 16384

noncomputable section

namespace Cert.KernelIdeal.Point

open Idealize.ShloMosaic Idealize.ShloMosaic.TcCoe Idealize.SL.Sem
open Cert.KernelIdeal Cert.KernelIdeal.Gen

variable (m : (ℓ : Loc nD τ sig) → Buf (Elt Ideal) ℓ)

set_option maxHeartbeats 4000000 in
/-- The state a point leaves, two chunks further, at a later point. -/
theorem soutB_at (c : Dev nD) (t : Fin cfg0.N) (g0 : ¬t.val % 32 = 0) (g1 : ¬t.val % 32 = 31) (acc : Vec Ideal S8x128x128 .f32) (y : S8x128x128.Idx) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => g0 ((hcond0_0 t).mp h)) (fun h => g1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc y
      = Cert.Chunk.stS (iblk m c 1 t) (iblk m c 3 t) (iblk m c 4 t) (iblk m c 5 t) (iblk m c 6 t) (iblk m c 9 t) (iblk m c 10 t) 1 (Cert.Chunk.stS (iblk m c 1 t) (iblk m c 3 t) (iblk m c 4 t) (iblk m c 5 t) (iblk m c 6 t) (iblk m c 9 t) (iblk m c 10 t) 0 (fun h d e => acc (ix3 h d e))) (y 0) (y 1) (y 2) := by
  frame_out
  refine (Cert.Chunk.canon_eight _ _ _ _ _ _ _ _ _ (View.cover_of_tiledL _ ![1, 128, 128] (by rfl)) y).trans ?_
  canon_tiles x h
  all_goals
    obtain ⟨z, i, e, rfl⟩ : ∃ z i e, x = ix3 z i e := ⟨x 0, x 1, x 2, by funext a; fin_cases a <;> rfl⟩
    have hz := z.isLt
    have hi := i.isLt
    have he := e.isLt
    simp only [ix3] at h0 h1 h2
    refine Cert.Chunk.stC_of (k := (View.ld (iblk m c 1 t) (Rect.unit ![128, 0] ![128, 512] inb_S256x512_S128x512_128_0))) (kp := (View.ld (iblk m c 3 t) (Rect.unit ![128, 0] ![128, 512] inb_S256x512_S128x512_128_0)))
      (c := (View.ld (iblk m c 5 t) (Rect.unit ![128, 0] ![128, 512] inb_S256x512_S128x512_128_0))) (s := (View.ld (iblk m c 6 t) (Rect.unit ![128, 0] ![128, 512] inb_S256x512_S128x512_128_0))) 1 _ ?_ ?_ ?_ ?_ ?_ ?_ ?_ ?_ ?_ ?_ _ _ _ _ _ ?_ ?_
    · first | exact Cert.Chunk.low_at _ (by ((try simp only []); omega)) | exact Cert.Chunk.high_at _ (by ((try simp only []); omega))
    · (try simp only []); omega
    iterate 5
      · intro j l; refine View.ld_unit_apply_of _ _ _ _ _ _ fun a => ?_; fin_cases a <;> simp [ix2, ix3, Cert.Chunk.row, Cert.Chunk.col] <;> omega
    · intro j l; rfl
    · intro j l; refine View.ld_unit_apply_of _ _ _ _ _ _ fun a => ?_; fin_cases a <;> simp [ix2, ix3, Cert.Chunk.row, Cert.Chunk.col] <;> omega
    · intro j l
      simp +decide only [↓View.readCov_skip, ↓View.readCov_cons_toLoadRect]
      refine Cert.Chunk.stC_of 0 _ ?_ ?_ ?_ ?_ ?_ ?_ ?_ ?_ ?_ ?_ _ _ _ _ _ rfl rfl
      · first | exact Cert.Chunk.low_at _ (by ((try simp only []); omega)) | exact Cert.Chunk.high_at _ (by ((try simp only []); omega))
      · (try simp only []); omega
      iterate 5
        · intro j l; refine View.ld_unit_apply_of _ _ _ _ _ _ fun a => ?_; fin_cases a <;> simp [ix2, ix3, Cert.Chunk.row, Cert.Chunk.col] <;> omega
      · intro j l; rfl
      · intro j l; refine View.ld_unit_apply_of _ _ _ _ _ _ fun a => ?_; fin_cases a <;> simp [ix2, ix3, Cert.Chunk.row, Cert.Chunk.col] <;> omega
      · intro j l
        simp +decide only [↓View.readCov_skip, ↓View.readCov_fill, read_unread_whole]
        first
        | refine View.ld_unit_apply_of _ _ _ _ _ _ fun a => ?_
          fin_cases a <;> simp [ix3] <;> omega
        | refine (View.ld_unit_apply_of _ _ _ _ _ (ix3 (y 0) j l) fun a => ?_).trans (fill_at _ _ _ _)
          fin_cases a <;> simp [ix3] <;> omega
    · apply Fin.ext; (try simp only []); omega
    · apply Fin.ext; (try simp only []); omega

end Cert.KernelIdeal.Point
-- ==== Proof.KerFwd.lean ====
/- What the retention kernel writes: the recurrence of `Cert.Retention`, two chunks at every point. -/
module

public import proofs.«01_k».proof.Proof.Gen.KernelIdeal.Frame
public import Idealize.ShloMosaic.Lib.Pipeline.ValueKit
public import proofs.«01_k».proof.Proof.Chunk
public import proofs.«01_k».proof.Proof.HostFwd
public import proofs.«01_k».proof.Proof.BlockFwd
public import proofs.«01_k».proof.Proof.PointOutA
public import proofs.«01_k».proof.Proof.PointOutB
public import proofs.«01_k».proof.Proof.PointOutC
public import proofs.«01_k».proof.Proof.PointStateA
public import proofs.«01_k».proof.Proof.PointStateB

@[expose] public section

set_option maxRecDepth 16384

noncomputable section

namespace Cert.KernelIdeal.Ret

open Idealize.ShloMosaic Idealize.ShloMosaic.TcCoe Idealize.SL.Sem
open Cert.KernelIdeal Cert.KernelIdeal.Gen Cert.KernelIdeal.Operands
open Cert.Chunk (own row lane col tB outS stS stAt)
open Cert.Retention (Head cn)

/-! ## Sums over the lanes of a pair of heads -/

/-- A sum over the lanes of one head of a pair is a sum over that head's columns. -/
theorem sum_own (h : Fin 8) (f : Fin 128 → EReal) :
    (∑ l : Fin 128, if own h l then f l else 0) = ∑ d : Fin 64, f ⟨64 * (h.val % 2) + d.val, by omega⟩ := by
  have hs := Fin.sum_univ_add (a := 64) (b := 64) (fun l : Fin 128 => if own h l then f l else 0)
  refine hs.trans ?_
  rcases Nat.mod_two_eq_zero_or_one h.val with h0 | h1
  · have e1 : ∀ d : Fin 64, (if own h (Fin.castAdd 64 d) then f (Fin.castAdd 64 d) else 0) = f ⟨64 * (h.val % 2) + d.val, by omega⟩ := fun d => by
      rw [if_pos (show (Fin.castAdd 64 d).val / 64 = h.val % 2 by simp only [Fin.val_castAdd]; omega)]
      exact congrArg f (Fin.ext (by simp only [Fin.val_castAdd]; omega))
    have e2 : ∀ d : Fin 64, (if own h (Fin.natAdd 64 d) then f (Fin.natAdd 64 d) else 0) = 0 := fun d =>
      if_neg (show ¬(Fin.natAdd 64 d).val / 64 = h.val % 2 by simp only [Fin.val_natAdd]; omega)
    simp only [e1, e2, Finset.sum_const_zero, add_zero]
  · have e1 : ∀ d : Fin 64, (if own h (Fin.natAdd 64 d) then f (Fin.natAdd 64 d) else 0) = f ⟨64 * (h.val % 2) + d.val, by omega⟩ := fun d => by
      rw [if_pos (show (Fin.natAdd 64 d).val / 64 = h.val % 2 by simp only [Fin.val_natAdd]; omega)]
      exact congrArg f (Fin.ext (by simp only [Fin.val_natAdd]; omega))
    have e2 : ∀ d : Fin 64, (if own h (Fin.castAdd 64 d) then f (Fin.castAdd 64 d) else 0) = 0 := fun d =>
      if_neg (show ¬(Fin.castAdd 64 d).val / 64 = h.val % 2 by simp only [Fin.val_castAdd]; omega)
    simp only [e1, e2, Finset.sum_const_zero, zero_add]

/-- The keys' scale spreads over a turned key. -/
theorem scale_add (a b : EReal) : (a + b) * Ideal.ofBits .f32 1040187392#32 = a * Ideal.ofBits .f32 1040187392#32 + b * Ideal.ofBits .f32 1040187392#32 := by
  have hv : Ideal.ofBits .f32 1040187392#32 = ((1 / 8 : ℝ) : EReal) := by
    simp [Ideal.ofBits, Ideal.ieee, -EReal.coe_mul]; norm_num
  rw [hv]
  exact EReal.right_distrib_of_nonneg_of_ne_top (by exact_mod_cast (by norm_num : (0 : ℝ) ≤ 1 / 8)) (EReal.coe_ne_top _) a b

variable (m : (ℓ : Loc nD τ sig) → Buf (Elt Ideal) ℓ)

/-- One head of one sequence, from the program's arguments. -/
abbrev hd (c : Dev nD) (b : Fin 2) (h : Fin 8) : Head := Cert.RetFwd.head (aP m c) (aC m c) (aS m c) (aL m c) (aI m c) b h

/-- The state of every head after `N` chunks of sequence `b`, each head's in its half of a pair. -/
def inv (c : Dev nD) (b : Fin 2) (N : ℕ) (h : Fin 8) (l e : Fin 128) : EReal :=
  if own h l then (hd m c b h).st N ⟨l.val % 64, by omega⟩ e else 0

/-- The chunk that half `k` of a point's block is. -/
def gn (t : Fin cfg0.N) (k : Fin 2) : Fin 64 := ⟨2 * (t.val % 32) + k.val, by omega⟩

section
variable (c : Dev nD) (t : Fin cfg0.N) (k : Fin 2) (h : Fin 8)

/-- The row of the columns for token `i` of a chunk. -/
theorem gr_row (i : Fin 128) : gr t (row k i) = ⟨(gb t).val * 8192 + ((gn t k).val * 128 + i.val), by have := (gb t).isLt; have := (gn t k).isLt; omega⟩ :=
  Fin.ext (by simp only [gr, row, gb, gn]; omega)

/-- The row of the rotary tables for token `i` of a chunk. -/
theorem gp_row (i : Fin 128) : gp t (row k i) = ⟨(gn t k).val * 128 + i.val, by have := (gn t k).isLt; omega⟩ :=
  Fin.ext (by simp only [gp, row, gn]; omega)

/-- The lane of a head's column. -/
def lq (d : Fin 64) : Fin 128 := ⟨64 * (h.val % 2) + d.val, by omega⟩

/-- Its place among the columns of all heads. -/
theorem lane_val (d : Fin 64) : (lane h (lq h d)).val = h.val * 64 + d.val := by simp only [lane, lq]; omega

/-- An entry of the columns depends on the column's number only. -/
theorem aP_eq (r : Fin 16384) {x y : Fin 7168} (e : x.val = y.val) : aP m c (ix2 r x) = aP m c (ix2 r y) :=
  congrArg (fun z => aP m c (ix2 r z)) (Fin.ext e)

/-- The cosine a column is turned by. -/
theorem c_at (i : Fin 128) (d : Fin 64) : iblk m c 5 t (ix2 (row k i) (lane h (lq h d))) = aC m c (ix2 ⟨(gn t k).val * 128 + i.val, by have := (gn t k).isLt; omega⟩ ⟨d.val / 2, by omega⟩) := by
  rw [raw5, cos_at, gp_row]
  exact congrArg (fun z => aC m c (ix2 _ z)) (Fin.ext (by have := lane_val h d; simp only []; omega))

/-- The sine a column is turned by. -/
theorem s_at (i : Fin 128) (d : Fin 64) : iblk m c 6 t (ix2 (row k i) (lane h (lq h d))) = aS m c (ix2 ⟨(gn t k).val * 128 + i.val, by have := (gn t k).isLt; omega⟩ ⟨d.val / 2, by omega⟩) := by
  rw [raw6, sin_at, gp_row]
  exact congrArg (fun z => aS m c (ix2 _ z)) (Fin.ext (by have := lane_val h d; simp only []; omega))

/-- Column `x` of token `i` of a chunk. -/
def px (i : Fin 128) (x : Fin 7168) : EReal := aP m c (ix2 ⟨(gb t).val * 8192 + ((gn t k).val * 128 + i.val), by have := (gb t).isLt; have := (gn t k).isLt; omega⟩ x)

theorem px_eq (i : Fin 128) {x y : Fin 7168} (e : x.val = y.val) : px m c t k i x = px m c t k i y := aP_eq m c _ e

/-- The column of a query and its partner column. -/
theorem x_at (i : Fin 128) (d : Fin 64) :
    iblk m c 0 t (ix2 (row k i) (lane h (lq h d))) = (if d.val % 2 < 1 then px m c t k i ⟨h.val * 64 + d.val / 2 * 2, by omega⟩ else px m c t k i ⟨h.val * 64 + (d.val / 2 * 2 + 1), by omega⟩ : EReal)
    ∧ @Eq EReal (iblk m c 2 t (ix2 (row k i) (lane h (lq h d)))) (if d.val % 2 < 1 then -px m c t k i ⟨h.val * 64 + (d.val / 2 * 2 + 1), by omega⟩ else px m c t k i ⟨h.val * 64 + d.val / 2 * 2, by omega⟩) := by
  have hl := lane_val h d
  rw [raw0, raw2, p2_at, p2_at, dif_pos (by simp only []; omega), dif_neg (by simp only []; omega), dif_pos (by simp only []; omega), gr_row]
  by_cases hd : d.val % 2 < 1
  · rw [if_pos hd, if_pos hd, if_pos (by simp only []; omega)]
    exact ⟨px_eq m c t k i (by simp only []; omega), congrArg Neg.neg (px_eq m c t k i (by simp only []; omega))⟩
  · rw [if_neg hd, if_neg hd, if_neg (by simp only []; omega)]
    exact ⟨px_eq m c t k i (by simp only []; omega), px_eq m c t k i (by simp only []; omega)⟩

/-- The column of a key and its partner column. -/
theorem y_at (i : Fin 128) (d : Fin 64) :
    iblk m c 1 t (ix2 (row k i) (lane h (lq h d))) = (if d.val % 2 < 1 then px m c t k i ⟨512 + (h.val * 64 + d.val / 2 * 2), by omega⟩ else px m c t k i ⟨512 + (h.val * 64 + (d.val / 2 * 2 + 1)), by omega⟩ : EReal)
    ∧ @Eq EReal (iblk m c 3 t (ix2 (row k i) (lane h (lq h d)))) (if d.val % 2 < 1 then -px m c t k i ⟨512 + (h.val * 64 + (d.val / 2 * 2 + 1)), by omega⟩ else px m c t k i ⟨512 + (h.val * 64 + d.val / 2 * 2), by omega⟩) := by
  have hl := lane_val h d
  rw [raw1, raw3, p2_at, p2_at, dif_pos (by simp only []; omega), dif_neg (by simp only []; omega), dif_neg (by simp only []; omega), gr_row]
  by_cases hd : d.val % 2 < 1
  · rw [if_pos hd, if_pos hd, if_pos (by simp only []; omega)]
    exact ⟨px_eq m c t k i (by simp only []; omega), congrArg Neg.neg (px_eq m c t k i (by simp only []; omega))⟩
  · rw [if_neg hd, if_neg hd, if_neg (by simp only []; omega)]
    exact ⟨px_eq m c t k i (by simp only []; omega), px_eq m c t k i (by simp only []; omega)⟩

/-- A turned query. -/
theorem q_at (i : Fin 128) (d : Fin 64) :
    tB (iblk m c 0 t) (iblk m c 2 t) (iblk m c 5 t) (iblk m c 6 t) (row k i) (lane h (lq h d)) = (hd m c (gb t) h).q (gn t k) i d := by
  obtain ⟨e0, e2⟩ := x_at m c t k h i d
  unfold tB
  rw [e0, e2, c_at, s_at]
  show _ = Cert.Retention.rope d.val (px m c t k i ⟨h.val * 64 + d.val / 2 * 2, by omega⟩) (px m c t k i ⟨h.val * 64 + (d.val / 2 * 2 + 1), by omega⟩) _ _
  unfold Cert.Retention.rope
  by_cases hd : d.val % 2 < 1
  · simp only [if_pos hd]
    rw [EReal.neg_mul, ← sub_eq_add_neg]
  · simp only [if_neg hd]
    rw [add_comm]

/-- A turned and scaled key. -/
theorem k_at (j : Fin 128) (d : Fin 64) :
    tB (iblk m c 1 t) (iblk m c 3 t) (iblk m c 5 t) (iblk m c 6 t) (row k j) (lane h (lq h d)) * Ideal.ofBits .f32 0x3E000000#32 = (hd m c (gb t) h).k (gn t k) j d := by
  obtain ⟨e0, e2⟩ := y_at m c t k h j d
  unfold tB
  rw [e0, e2, c_at, s_at, scale_add]
  show _ = Cert.Retention.rope d.val (px m c t k j ⟨512 + (h.val * 64 + d.val / 2 * 2), by omega⟩ * Ideal.ofBits .f32 1040187392#32) (px m c t k j ⟨512 + (h.val * 64 + (d.val / 2 * 2 + 1)), by omega⟩ * Ideal.ofBits .f32 1040187392#32) _ _
  unfold Cert.Retention.rope
  by_cases hd : d.val % 2 < 1
  · simp only [if_pos hd]
    rw [EReal.neg_mul, EReal.neg_mul, ← sub_eq_add_neg]
    simp only [mul_right_comm _ _ (Ideal.ofBits .f32 1040187392#32)]
  · simp only [if_neg hd]
    rw [add_comm]
    simp only [mul_right_comm _ _ (Ideal.ofBits .f32 1040187392#32)]

/-- A value. -/
theorem v_at (j : Fin 128) (e : Fin 128) : iblk m c 4 t (ix2 (row k j) (col h e)) = (hd m c (gb t) h).v (gn t k) j e := by
  rw [raw4, p2_at, dif_pos (by simp only [col]; omega), gr_row]
  exact aP_eq m c _ (by simp only [col]; omega)

/-- The decay from a chunk's start. -/
theorem d_at (i : Fin 128) (d : Fin 64) : iblk m c 8 t (ix2 i (lane h (lq h d))) = (hd m c (gb t) h).qd i := by
  rw [raw8, qd_at]
  exact congrArg (fun z => Ideal.exp (((FloatOps.sitofp (F := Ideal) FTy.f32 (BitVec.ofNat 32 i.val) : EReal) + 1) * aL m c (ix1 z))) (Fin.ext (by have := lane_val h d; simp only []; omega))

/-- The decay to a chunk's end. -/
theorem e_at (i : Fin 128) (d : Fin 64) : iblk m c 9 t (ix2 i (lane h (lq h d))) = (hd m c (gb t) h).kd i := by
  rw [raw9, kd_at]
  exact congrArg (fun z => Ideal.exp ((Ideal.ofBits .f32 1123942400#32 - (FloatOps.sitofp (F := Ideal) FTy.f32 (BitVec.ofNat 32 i.val) : EReal)) * aL m c (ix1 z))) (Fin.ext (by have := lane_val h d; simp only []; omega))

/-- A lane that a head owns is the lane of one of its columns. -/
theorem lq_of (l : Fin 128) (ho : own h l) : lq h ⟨l.val % 64, by omega⟩ = l := Fin.ext (by simp only [lq]; have : l.val / 64 = h.val % 2 := ho; omega)

/-- The point's starting states. -/
theorem st0_at (l e : Fin 128) : iblk m c 11 t (ix4 0 h l e) = inv m c (gb t) 0 h l e := by
  rw [raw11, s0_at]
  rfl

/-- One chunk takes the states after `N` chunks to those after `N + 1`. -/
theorem st_step (l e : Fin 128) :
    stS (iblk m c 1 t) (iblk m c 3 t) (iblk m c 4 t) (iblk m c 5 t) (iblk m c 6 t) (iblk m c 9 t) (iblk m c 10 t) k (inv m c (gb t) (gn t k).val) h l e
      = inv m c (gb t) ((gn t k).val + 1) h l e := by
  unfold stS inv
  by_cases ho : own h l
  · have hl := lq_of h l ho
    simp only [if_pos ho]
    rw [raw10, gc_at]
    show _ = (hd m c (gb t) h).gc * (hd m c (gb t) h).st (gn t k).val _ e + ∑ j, (hd m c (gb t) h).k (cn (gn t k).val) j _ * (hd m c (gb t) h).kd j * (hd m c (gb t) h).v (cn (gn t k).val) j e
    rw [show cn (gn t k).val = gn t k from Fin.ext (Nat.mod_eq_of_lt (gn t k).isLt)]
    refine congrArg₂ (· + ·) rfl (Finset.sum_congr rfl fun j _ => ?_)
    rw [v_at, ← k_at, ← e_at m c t h j ⟨l.val % 64, by omega⟩, hl]
  · simp only [if_neg ho, mul_zero, zero_mul, Finset.sum_const_zero, add_zero]

/-- What a chunk gives, from the states at its start. -/
theorem out_step (i e : Fin 128) :
    outS (iblk m c 0 t) (iblk m c 1 t) (iblk m c 2 t) (iblk m c 3 t) (iblk m c 4 t) (iblk m c 5 t) (iblk m c 6 t) (iblk m c 7 t) (iblk m c 8 t) (inv m c (gb t) (gn t k).val) k i h e
      = (hd m c (gb t) h).out (gn t k) i e := by
  unfold outS inv Head.out
  simp only [mul_ite, mul_zero, sum_own]
  refine congrArg₂ (· + ·) (Finset.sum_congr rfl fun j _ => ?_) (Finset.sum_congr rfl fun d _ => ?_)
  · rw [v_at, raw7, dm_at, mul_comm]
    refine congrArg₂ (· * ·) rfl (congrArg₂ (· * ·) (Finset.sum_congr rfl fun d _ => ?_) rfl)
    exact congrArg₂ (· * ·) (q_at m c t k h i d) (k_at m c t k h j d)
  · rw [mul_comm]
    refine congrArg₂ (· * ·) ?_ (congrArg₂ (· * ·) (q_at m c t k h i d) (d_at m c t h i d))
    exact congrArg (fun z => (hd m c (gb t) h).st (gn t k).val z e) (Fin.ext (by simp only []; omega))

end

/-! ## From point to point -/

section
variable (c : Dev nD) (t : Fin cfg0.N)

/-- Both chunks of a point, from the states it starts with. -/
theorem st_two (h : Fin 8) (l e : Fin 128) :
    stS (iblk m c 1 t) (iblk m c 3 t) (iblk m c 4 t) (iblk m c 5 t) (iblk m c 6 t) (iblk m c 9 t) (iblk m c 10 t) 1
      (stS (iblk m c 1 t) (iblk m c 3 t) (iblk m c 4 t) (iblk m c 5 t) (iblk m c 6 t) (iblk m c 9 t) (iblk m c 10 t) 0 (inv m c (gb t) (2 * (t.val % 32)))) h l e
      = inv m c (gb t) (2 * (t.val % 32) + 2) h l e := by
  rw [show stS (iblk m c 1 t) (iblk m c 3 t) (iblk m c 4 t) (iblk m c 5 t) (iblk m c 6 t) (iblk m c 9 t) (iblk m c 10 t) 0 (inv m c (gb t) (2 * (t.val % 32)))
      = inv m c (gb t) (gn t 1).val from funext fun h => funext fun l => funext fun e => st_step m c t 0 h l e]
  exact st_step m c t 1 h l e

/-- The states chunk `k` of a point starts with. -/
theorem stAt_two (k : Fin 2) :
    stAt (iblk m c 1 t) (iblk m c 3 t) (iblk m c 4 t) (iblk m c 5 t) (iblk m c 6 t) (iblk m c 9 t) (iblk m c 10 t) (inv m c (gb t) (2 * (t.val % 32))) k
      = inv m c (gb t) (gn t k).val := by
  unfold stAt
  match k with
  | 0 => rfl
  | 1 => exact funext fun h => funext fun l => funext fun e => st_step m c t 0 h l e

/-- A point's block of the output, when it starts with the states of its chunk. -/
theorem out_two (k : Fin 2) (h : Fin 8) (i e : Fin 128) :
    outS (iblk m c 0 t) (iblk m c 1 t) (iblk m c 2 t) (iblk m c 3 t) (iblk m c 4 t) (iblk m c 5 t) (iblk m c 6 t) (iblk m c 7 t) (iblk m c 8 t)
      (stAt (iblk m c 1 t) (iblk m c 3 t) (iblk m c 4 t) (iblk m c 5 t) (iblk m c 6 t) (iblk m c 9 t) (iblk m c 10 t) (inv m c (gb t) (2 * (t.val % 32))) k) k i h e
      = (hd m c (gb t) h).out (gn t k) i e := by
  rw [stAt_two]
  exact out_step m c t k h i e

end

attribute [local irreducible] outsAt0

/-- The states the first point of a sequence leaves behind. -/
theorem states_first (c : Dev nD) (t : Fin cfg0.N) (h0 : t.val % 32 = 0) (h31 : ¬t.val % 32 = 31) (h : Fin 8) (l e : Fin 128) :
    (outsAt0 m c t.val t.isLt).2.2 (ix3 h l e) = inv m c (gb t) (2 * (t.val % 32) + 2) h l e := by
  have ez : (fun h l e => iblk m c 11 t (ix4 0 h l e)) = inv m c (gb t) (2 * (t.val % 32)) :=
    funext fun h => funext fun l => funext fun e => (st0_at m c t h l e).trans (by rw [h0])
  have key := Point.soutA_at m c t h0 h31 (ix3 h l e)
  rw [ez] at key
  exact (congrFun (congrArg (fun x => x.2.2) (outsAt0_A m c t h0 h31)) (ix3 h l e)).trans (key.trans (st_two m c t h l e))

/-- The states a later point leaves behind. -/
theorem states_next (c : Dev nD) (t : Fin cfg0.N) (h0 : ¬t.val % 32 = 0) (h31 : ¬t.val % 32 = 31)
    (ez : (fun h l e => (outsAt0 m c (t.val - 1) (Nat.lt_of_le_of_lt (Nat.sub_le _ _) t.isLt)).2.2 (ix3 h l e)) = inv m c (gb t) (2 * (t.val % 32)))
    (h : Fin 8) (l e : Fin 128) :
    (outsAt0 m c t.val t.isLt).2.2 (ix3 h l e) = inv m c (gb t) (2 * (t.val % 32) + 2) h l e := by
  have key := Point.soutB_at m c t h0 h31 (outsAt0 m c (t.val - 1) (Nat.lt_of_le_of_lt (Nat.sub_le _ _) t.isLt)).2.2 (ix3 h l e)
  rw [ez] at key
  exact (congrFun (congrArg (fun x => x.2.2) (outsAt0_B m c t h0 h31)) (ix3 h l e)).trans (key.trans (st_two m c t h l e))

/-- The states the points leave behind, before the last of a sequence. -/
theorem states (c : Dev nD) : ∀ (n : ℕ) (hn : n < cfg0.N), ¬n % 32 = 31 → ∀ (h : Fin 8) (l e : Fin 128),
    (outsAt0 m c n hn).2.2 (ix3 h l e) = inv m c (gb ⟨n, hn⟩) (2 * (n % 32) + 2) h l e := by
  intro n
  induction n with
  | zero => exact fun hn h31 h l e => states_first m c ⟨0, hn⟩ rfl h31 h l e
  | succ n ih =>
    intro hn h31 h l e
    by_cases h0 : (n + 1) % 32 = 0
    · exact states_first m c ⟨n + 1, hn⟩ h0 h31 h l e
    · refine states_next m c ⟨n + 1, hn⟩ h0 h31 (funext fun h => funext fun l => funext fun e => ?_) h l e
      refine (ih (Nat.lt_of_succ_lt hn) (by omega) h l e).trans ?_
      rw [show gb ⟨n, Nat.lt_of_succ_lt hn⟩ = gb ⟨n + 1, hn⟩ from Fin.ext (by simp only [gb]; omega)]
      exact congrArg (fun x => inv m c (gb ⟨n + 1, hn⟩) x h l e) (by simp only []; omega)

/-- What every point writes. -/
theorem outs (c : Dev nD) (t : Fin cfg0.N) (y : S256x1024.Idx) :
    (outsAt0 m c t.val t.isLt).1 y
      = (hd m c (gb t) ⟨(y 1).val / 128, by have : (y 1).val < 1024 := (y 1).isLt; omega⟩).out (gn t ⟨(y 0).val / 128, by have : (y 0).val < 256 := (y 0).isLt; omega⟩) ⟨(y 0).val % 128, by omega⟩ ⟨(y 1).val % 128, by omega⟩ := by
  by_cases h0 : t.val % 32 = 0
  · have h31 : ¬t.val % 32 = 31 := by omega
    have ez : (fun h l e => iblk m c 11 t (ix4 0 h l e)) = inv m c (gb t) (2 * (t.val % 32)) :=
      funext fun h => funext fun l => funext fun e => (st0_at m c t h l e).trans (by rw [h0])
    have key := Point.outA_at m c t h0 h31 y
    rw [ez, out_two] at key
    exact (congrFun (congrArg (fun x => x.1) (outsAt0_A m c t h0 h31)) y).trans key
  · have ez : (fun h l e => (outsAt0 m c (t.val - 1) (Nat.lt_of_le_of_lt (Nat.sub_le _ _) t.isLt)).2.2 (ix3 h l e)) = inv m c (gb t) (2 * (t.val % 32)) := by
      refine funext fun h => funext fun l => funext fun e => (states m c (t.val - 1) _ (by omega) h l e).trans ?_
      rw [show gb ⟨t.val - 1, Nat.lt_of_le_of_lt (Nat.sub_le _ _) t.isLt⟩ = gb t from Fin.ext (by simp only [gb]; omega), show 2 * ((t.val - 1) % 32) + 2 = 2 * (t.val % 32) by omega]
    by_cases h31 : t.val % 32 = 31
    · have key := Point.outC_at m c t h0 h31 (outsAt0 m c (t.val - 1) (Nat.lt_of_le_of_lt (Nat.sub_le _ _) t.isLt)).2.2 y
      rw [ez, out_two] at key
      exact (congrFun (congrArg (fun x => x.1) (outsAt0_C m c t h0 h31)) y).trans key
    · have key := Point.outB_at m c t h0 h31 (outsAt0 m c (t.val - 1) (Nat.lt_of_le_of_lt (Nat.sub_le _ _) t.isLt)).2.2 y
      rw [ez, out_two] at key
      exact (congrFun (congrArg (fun x => x.1) (outsAt0_B m c t h0 h31)) y).trans key

/-! ## The array -/

/-- The retention of every token, laid out by token and head column. -/
def ret (c : Dev nD) (x : S16384x1024.Idx) : EReal :=
  (hd m c ⟨(x 0).val / 8192, by have : (x 0).val < 16384 := (x 0).isLt; omega⟩ ⟨(x 1).val / 128, by have : (x 1).val < 1024 := (x 1).isLt; omega⟩).out
    ⟨(x 0).val % 8192 / 128, by omega⟩ ⟨(x 0).val % 128, by omega⟩ ⟨(x 1).val % 128, by omega⟩

/-- The same, at a row and column taken apart. -/
theorem ret_eq (c : Dev nD) (x : S16384x1024.Idx) (b : Fin 2) (h : Fin 8) (n : Fin 64) (i e : Fin 128)
    (e0 : (x 0).val = b.val * 8192 + (n.val * 128 + i.val)) (e1 : (x 1).val = h.val * 128 + e.val) : ret m c x = (hd m c b h).out n i e := by
  have : (x 0).val < 16384 := (x 0).isLt
  have : (x 1).val < 1024 := (x 1).isLt
  unfold ret
  rw [show (⟨(x 0).val / 8192, by omega⟩ : Fin 2) = b from Fin.ext (by simp only []; omega),
    show (⟨(x 1).val / 128, by omega⟩ : Fin 8) = h from Fin.ext (by simp only []; omega),
    show (⟨(x 0).val % 8192 / 128, by omega⟩ : Fin 64) = n from Fin.ext (by simp only []; omega),
    show (⟨(x 0).val % 128, by omega⟩ : Fin 128) = i from Fin.ext (by simp only []; omega),
    show (⟨(x 1).val % 128, by omega⟩ : Fin 128) = e from Fin.ext (by simp only []; omega)]

/-- The output array the points leave behind. -/
theorem arr (c : Dev nD) : (dats m 0 c).arrAt 12 cfg0.N = ret m c := by
  refine (dats m 0 c).arrAt_eq_of_covers 12 _ (by decide +kernel) fun t hf y => ?_
  rw [after0_12]
  have hi := idx12 t
  have h0 : (y 0).val < 256 := (y 0).isLt
  have h1 : (y 1).val < 1024 := (y 1).isLt
  have hN : t.val < 64 := t.isLt
  refine (outs m c t y).trans (ret_eq m c _ _ _ _ _ _ ?_ ?_).symm
  · show win0_12.index t 0 * 256 + 1 * (y 0).val = _
    rw [hi]
    show t.val * 256 + 1 * (y 0).val = t.val / 32 * 8192 + ((2 * (t.val % 32) + (y 0).val / 128) * 128 + (y 0).val % 128)
    omega
  · show win0_12.index t 1 * 1024 + 1 * (y 1).val = _
    rw [hi]
    show 0 * 1024 + 1 * (y 1).val = (y 1).val / 128 * 128 + (y 1).val % 128
    omega

/-- The reference's result is that array. -/
theorem ref_eq (c : Dev nD) : Cert.ReferenceIdeal.Step.R_main_v100 (Cert.RetFwd.it (aP m c) (aC m c) (aS m c) (aL m c) (aI m c) 64) = ret m c := by
  funext x
  have h0 : (x 0).val < 16384 := (x 0).isLt
  have h1 : (x 1).val < 1024 := (x 1).isLt
  have key := Cert.RetFwd.result_at (aP m c) (aC m c) (aS m c) (aL m c) (aI m c) ⟨(x 0).val / 8192, by omega⟩ ⟨(x 0).val % 8192 / 128, by omega⟩ ⟨(x 0).val % 128, by omega⟩ ⟨(x 1).val / 128, by omega⟩ ⟨(x 1).val % 128, by omega⟩
  refine (congrArg _ ?_).trans key
  exact funext fun a => match a with
    | ⟨0, _⟩ => Fin.ext (by show (x 0).val = (x 0).val / 8192 * 8192 + ((x 0).val % 8192 / 128 * 128 + (x 0).val % 128); omega)
    | ⟨1, _⟩ => Fin.ext (by show (x 1).val = (x 1).val / 128 * 128 + (x 1).val % 128; omega)

end Cert.KernelIdeal.Ret
-- ==== Proof.ProjRun.lean ====
/- The body of the input projection run at a point: at one that starts a block of rows, and at another. -/
module

public import proofs.«01_k».proof.Proof.Gen.Kernel2Ideal.Skeleton
public import proofs.«01_k».proof.Proof.Gen.Kernel2Ideal.Frame
public import Idealize.ShloMosaic.Lib.Claim
public import Idealize.ShloMosaic.Lib.VecWindow

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point that starts a new block of rows (its condition holds): from the six inputs' buffers at
    their blocks, the scratch ends at the normalised rows, the first result at their product with `w`'s columns, the
    second at the product of `wT` with them. -/
theorem run_first (c : Dev nD) (i : grid0.Coords) (a2 : Memref sig .tc .vmem S512x1024 .f32) (h2 : a2.IsWhole)
    (a3 : Memref sig .tc .vmem S1x1024 .f32) (h3 : a3.IsWhole) (a4 : Memref sig .tc .vmem S1x1x1024 .f32) (h4 : a4.IsWhole)
    (a5 : Memref sig .tc .vmem S1x1x1024 .f32) (h5 : a5.IsWhole) (a6 : Memref sig .tc .vmem S1024x2048 .bf16) (h6 : a6.IsWhole)
    (a7 : Memref sig .tc .vmem S1536x1024 .bf16) (h7 : a7.IsWhole) (a8 : Memref sig .tc .vmem S512x2048 .f32) (h8 : a8.IsWhole)
    (a9 : Memref sig .tc .vmem S1536x512 .f32) (h9 : a9.IsWhole) (a10 : Memref sig .tc .vmem S512x1024 .bf16) (h10 : a10.IsWhole)
    (hc : k0_cond1 i = 1#1) (x : Vec F S512x1024 .f32) (g : Vec F S1x1024 .f32) (sh sc : Vec F S1x1x1024 .f32)
    (w : Vec F S1024x2048 .bf16) (wt : Vec F S1536x1024 .bf16) (E : Set ℕ) (K : PUnit → sProp 𝕄) :
    iprop(owns (c : Thread nD τ) a2 fullShare x ∗ owns (c : Thread nD τ) a3 fullShare g ∗ owns (c : Thread nD τ) a4 fullShare sh
        ∗ owns (c : Thread nD τ) a5 fullShare sc ∗ owns (c : Thread nD τ) a6 fullShare w ∗ owns (c : Thread nD τ) a7 fullShare wt
        ∗ (∃ d, owns (c : Thread nD τ) a8 fullShare d) ∗ (∃ d, owns (c : Thread nD τ) a9 fullShare d)
        ∗ (∃ d, owns (c : Thread nD τ) a10 fullShare d)
        ∗ (iprop(owns (c : Thread nD τ) a2 fullShare x ∗ owns (c : Thread nD τ) a3 fullShare g ∗ owns (c : Thread nD τ) a4 fullShare sh
            ∗ owns (c : Thread nD τ) a5 fullShare sc ∗ owns (c : Thread nD τ) a6 fullShare w ∗ owns (c : Thread nD τ) a7 fullShare wt
            ∗ owns (c : Thread nD τ) a8 fullShare (k0_pay4 (k0_pay2 x g sc sh) w)
            ∗ owns (c : Thread nD τ) a9 fullShare (k0_pay3 x g sc sh wt)
            ∗ owns (c : Thread nD τ) a10 fullShare (k0_pay2 x g sc sh)) -∗ K ⟨⟩))
      ⊢ wp frame (wpE (defs₀ (F := F)) Variants.none c none) E
          (cc0_norm_project i a2 h2 a3 h3 a4 h4 a5 h5 a6 h6 a7 h7 a8 h8 a9 h9 a10 h10) K := by
  simp only [cc0_norm_project_eq_skeleton]; unfold cc0_norm_project_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, Hk⟩
  obtain rfl := h2.eq_unread e2; obtain rfl := h3.eq_unread e3; obtain rfl := h4.eq_unread e4
  obtain rfl := h5.eq_unread e5; obtain rfl := h6.eq_unread e6; obtain rfl := h7.eq_unread e7
  sl_exec (disch := first | sl_exact hc)
  sl_step
  iapply Hk
  isplitl [H2]; · iexists _; isplitr; swap; iexact H2; ipureintro; exact h2.read_unread _
  isplitl [H3]; · iexists _; isplitr; swap; iexact H3; ipureintro; exact h3.read_unread _
  isplitl [H4]; · iexists _; isplitr; swap; iexact H4; ipureintro; exact h4.read_unread _
  isplitl [H5]; · iexists _; isplitr; swap; iexact H5; ipureintro; exact h5.read_unread _
  isplitl [H6]; · iexists _; isplitr; swap; iexact H6; ipureintro; exact h6.read_unread _
  isplitl [H7]; · iexists _; isplitr; swap; iexact H7; ipureintro; exact h7.read_unread _
  isplitl [H8]
  · iexists _; isplitr; swap; iexact H8; ipureintro
    delta run_first.sl.v3 run_first.sl.H10_1
    rw [View.read_writes_full, View.readCov_full, View.readAt_full, View.readAt_full,
      View.readAt_full, View.readAt_full, View.readAt_full, e2, e3, e4, e5, e6]
  isplitl [H9]
  · iexists _; isplitr; swap; iexact H9; ipureintro
    rw [View.read_writes_full, View.readAt_full, View.readAt_full, View.readAt_full, View.readAt_full, View.readAt_full,
      e2, e3, e4, e5, e7]
  iexists _; isplitr; swap; iexact H10; ipureintro
  delta run_first.sl.H10_1
  rw [View.read_writes_full, View.readAt_full, View.readAt_full, View.readAt_full, View.readAt_full,
    e2, e3, e4, e5]

/-- The body at any other point (its condition fails): from the scratch at `u`, only the first result's buffer
    changes, to the product of `u` with `w`'s columns. -/
theorem run_next (c : Dev nD) (i : grid0.Coords) (a2 : Memref sig .tc .vmem S512x1024 .f32) (h2 : a2.IsWhole)
    (a3 : Memref sig .tc .vmem S1x1024 .f32) (h3 : a3.IsWhole) (a4 : Memref sig .tc .vmem S1x1x1024 .f32) (h4 : a4.IsWhole)
    (a5 : Memref sig .tc .vmem S1x1x1024 .f32) (h5 : a5.IsWhole) (a6 : Memref sig .tc .vmem S1024x2048 .bf16) (h6 : a6.IsWhole)
    (a7 : Memref sig .tc .vmem S1536x1024 .bf16) (h7 : a7.IsWhole) (a8 : Memref sig .tc .vmem S512x2048 .f32) (h8 : a8.IsWhole)
    (a9 : Memref sig .tc .vmem S1536x512 .f32) (h9 : a9.IsWhole) (a10 : Memref sig .tc .vmem S512x1024 .bf16) (h10 : a10.IsWhole)
    (hc : ¬ k0_cond1 i = 1#1) (w : Vec F S1024x2048 .bf16) (u : Vec F S512x1024 .bf16) (E : Set ℕ) (K : PUnit → sProp 𝕄) :
    iprop(owns (c : Thread nD τ) a6 fullShare w ∗ (∃ d, owns (c : Thread nD τ) a8 fullShare d)
        ∗ owns (c : Thread nD τ) a10 fullShare u
        ∗ (iprop(owns (c : Thread nD τ) a6 fullShare w ∗ owns (c : Thread nD τ) a8 fullShare (k0_pay4 u w)
            ∗ owns (c : Thread nD τ) a10 fullShare u) -∗ K ⟨⟩))
      ⊢ wp frame (wpE (defs₀ (F := F)) Variants.none c none) E
          (cc0_norm_project i a2 h2 a3 h3 a4 h4 a5 h5 a6 h6 a7 h7 a8 h8 a9 h9 a10 h10) K := by
  simp only [cc0_norm_project_eq_skeleton]; unfold cc0_norm_project_skel
  unfold owns
  iintro ⟨⟨%f6, %e6, H6⟩, ⟨%d8, %f8, -, H8⟩, ⟨%f10, %e10, H10⟩, Hk⟩
  obtain rfl := h6.eq_unread e6; obtain rfl := h10.eq_unread e10
  sl_exec (disch := first | sl_exact hc)
  sl_step
  iapply Hk
  isplitl [H6]; · iexists _; isplitr; swap; iexact H6; ipureintro; exact h6.read_unread _
  isplitl [H8]
  · iexists _; isplitr; swap; iexact H8; ipureintro
    rw [View.read_writes_full, View.readAt_full, View.readAt_full, e6, e10]
  iexists _; isplitr; swap; iexact H10; ipureintro; exact h10.read_unread _

end Cert.Kernel2Ideal.Proj

end
-- ==== Proof.ProjFrame.lean ====
/- The run of the input projection: what the scratch and the two results' blocks hold after every point, the body's
   obligation, and the run with every argument array unchanged. -/
module

public import proofs.«01_k».proof.Proof.ProjRun
public import Idealize.ShloMosaic.Lib.Pipeline.ValueKit

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

theorem idx0 : ∀ t : Fin grid0.N, win0_0.index t = ![t.val / 4, 0] := by decide +kernel
theorem idx1 : ∀ t : Fin grid0.N, win0_1.index t = ![0, 0] := by decide +kernel
theorem idx2 : ∀ t : Fin grid0.N, win0_2.index t = ![t.val / 64, 0, 0] := by decide +kernel
theorem idx3 : ∀ t : Fin grid0.N, win0_3.index t = ![t.val / 64, 0, 0] := by decide +kernel
theorem idx4 : ∀ t : Fin grid0.N, win0_4.index t = ![0, t.val % 4] := by decide +kernel
theorem idx5 : ∀ t : Fin grid0.N, win0_5.index t = ![0, 0] := by decide +kernel
theorem idx6 : ∀ t : Fin grid0.N, win0_6.index t = ![t.val / 4, t.val % 4] := by decide +kernel
theorem idx7 : ∀ t : Fin grid0.N, win0_7.index t = ![0, t.val / 4] := by decide +kernel

/-- The body's condition holds at the first of each four points. -/
theorem cond_iff : ∀ t : Fin cfg0.N, k0_cond1 (grid0.coords t) = 1#1 ↔ t.val % 4 = 0 := by decide +kernel
/-- The second result's window is left alone exactly at the other points. -/
theorem idle7 : ∀ t : Fin cfg0.N, cfg0.idle 7 (grid0.coords t) = true ↔ ¬ t.val % 4 = 0 := by decide +kernel

section
variable (c : Dev nD) (t : Fin cfg0.N)

/-- The row of the array that row `r` of a point's block is. -/
def gr (t : Fin cfg0.N) (r : Fin 512) : Fin 16384 := ⟨512 * (t.val / 4) + r.val, by have := t.isLt; have : cfg0.N = 128 := rfl; omega⟩
/-- The sequence a point works on. -/
def gb (t : Fin cfg0.N) : Fin 2 := ⟨t.val / 64, by have := t.isLt; have : cfg0.N = 128 := rfl; omega⟩

theorem raw0 (r : Fin 512) (l : Fin 1024) : iblk m c 0 t (ix2 r l) = V m c main_v0 (ix2 (gr t r) l) := by
  blk_ext [iblk, idx0 t, gr, gb]
theorem raw1 (r : Fin 1) (l : Fin 1024) : iblk m c 1 t (ix2 r l) = V m c main_v1 (ix2 r l) := by
  blk_ext [iblk, idx1 t, gr, gb]
theorem raw2 (r s : Fin 1) (l : Fin 1024) : iblk m c 2 t (ix3 r s l) = V m c main_arg2 (ix3 (gb t) s l) := by
  blk_ext [iblk, idx2 t, gr, gb]
theorem raw3 (r s : Fin 1) (l : Fin 1024) : iblk m c 3 t (ix3 r s l) = V m c main_arg3 (ix3 (gb t) s l) := by
  blk_ext [iblk, idx3 t, gr, gb]
theorem raw4 (k : Fin 1024) (l : Fin 2048) : iblk m c 4 t (ix2 k l) = V m c main_arg4 (ix2 k ⟨2048 * (t.val % 4) + l.val, by omega⟩) := by
  blk_ext [iblk, idx4 t, gr, gb]
theorem raw5 (r : Fin 1536) (l : Fin 1024) : iblk m c 5 t (ix2 r l) = V m c main_arg5 (ix2 r l) := by
  blk_ext [iblk, idx5 t, gr, gb]

/-- The normalised rows of a point's block. -/
def rows : Vec F S512x1024 .bf16 := k0_pay2 (iblk m c 0 t) (iblk m c 1 t) (iblk m c 3 t) (iblk m c 2 t)
/-- A point's block of the first result. -/
def outB : Vec F S512x2048 .f32 := k0_pay4 (rows m c t) (iblk m c 4 t)
/-- A point's block of the second result. -/
def outT : Vec F S1536x512 .f32 := k0_pay3 (iblk m c 0 t) (iblk m c 1 t) (iblk m c 3 t) (iblk m c 2 t) (iblk m c 5 t)

end

/-- Arrays that agree at every index are equal, by their coordinates. -/
theorem ext2 {a b : ℕ} {α : Type} {f g : (⟨2, ![a, b]⟩ : Shape).Idx → α} (h : ∀ r l, f (ix2 r l) = g (ix2 r l)) : f = g :=
  funext fun i => by rw [eq_ix2 i]; exact h _ _
theorem ext3 {a b d : ℕ} {α : Type} {f g : (⟨3, ![a, b, d]⟩ : Shape).Idx → α} (h : ∀ r q l, f (ix3 r q l) = g (ix3 r q l)) : f = g :=
  funext fun i => by rw [eq_ix3 i]; exact h _ _ _

/-- Points of the same four have the same rows of `x`, and the same of every input but `w`. -/
theorem same0 (c : Dev nD) (t s : Fin cfg0.N) (h : t.val / 4 = s.val / 4) :
    (iblk m c 0 t : Vec F S512x1024 .f32) = iblk m c 0 s := by
  refine ext2 fun r l => ?_
  rw [raw0 m c t r l, raw0 m c s r l, show gr t r = gr s r from Fin.ext (by simp only [gr, h])]
theorem same1 (c : Dev nD) (t s : Fin cfg0.N) : (iblk m c 1 t : Vec F S1x1024 .f32) = iblk m c 1 s := by
  refine ext2 fun r l => ?_
  rw [raw1 m c t r l, raw1 m c s r l]
theorem sameb (t s : Fin cfg0.N) (h : t.val / 4 = s.val / 4) : gb t = gb s :=
  Fin.ext (by simp only [gb]; omega)
theorem same2 (c : Dev nD) (t s : Fin cfg0.N) (h : t.val / 4 = s.val / 4) :
    (iblk m c 2 t : Vec F S1x1x1024 .f32) = iblk m c 2 s := by
  refine ext3 fun r q l => ?_
  rw [raw2 m c t r q l, raw2 m c s r q l, sameb t s h]
theorem same3 (c : Dev nD) (t s : Fin cfg0.N) (h : t.val / 4 = s.val / 4) :
    (iblk m c 3 t : Vec F S1x1x1024 .f32) = iblk m c 3 s := by
  refine ext3 fun r q l => ?_
  rw [raw3 m c t r q l, raw3 m c s r q l, sameb t s h]
theorem same5 (c : Dev nD) (t s : Fin cfg0.N) : (iblk m c 5 t : Vec F S1536x1024 .bf16) = iblk m c 5 s := by
  refine ext2 fun r l => ?_
  rw [raw5 m c t r l, raw5 m c s r l]

theorem rows_same (c : Dev nD) (t s : Fin cfg0.N) (h : t.val / 4 = s.val / 4) : rows m c t = rows m c s := by
  unfold rows
  rw [same0 m c t s h, same1 m c t s, same2 m c t s h, same3 m c t s h]
theorem outT_same (c : Dev nD) (t s : Fin cfg0.N) (h : t.val / 4 = s.val / 4) : outT m c t = outT m c s := by
  unfold outT
  rw [same0 m c t s h, same1 m c t s, same2 m c t s h, same3 m c t s h, same5 m c t s]

/-! ## The proof data -/

/-- The scratch, whole. -/
abbrev scr : Memref sig .tc .vmem S512x1024 .bf16 := Memref.whole cc0_scratch0

/-- What the scratch holds before point `n`: after a point, that point's rows. -/
def Kept (c : Dev nD) (n : ℕ) (d : Vec F S512x1024 .bf16) : Prop := ∀ s : Fin cfg0.N, s.val + 1 = n → d = rows m c s

/-- The invariant before point `n`. -/
def Inv (c : Dev nD) (n : ℕ) : sProp 𝕄 :=
  iprop((∃ d, ⌜Kept m c n d⌝ ∗ owns (c : Thread nD τ) scr fullShare d) ∗ (∃ r, prngReg c r))

/-- The proof data: the arrays as the call finds them, each input's buffer at its block, each result's at the
    point's block of it. -/
def pdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m c t
    | ⟨7, _⟩ => outT m c t
  Φ t := Inv m c t.val
  q _ := fullShare
  owed _ := 0

theorem A_eq (c : Dev nD) (w : Fin cfg0.W) : (pdat m 0 c).A w = V m c (Pipeline.arrRef spec0 w) := by dsimp only [pdat]
theorem after6 (c : Dev nD) (t : Fin cfg0.N) : (pdat m 0 c).after 6 t = outB m c t := by dsimp only [pdat]
theorem after7 (c : Dev nD) (t : Fin cfg0.N) : (pdat m 0 c).after 7 t = outT m c t := by dsimp only [pdat]

theorem Inv_at (c : Dev nD) (t : Fin cfg0.N) : (pdat m 0 c).Φ t.castSucc = Inv m c t.val := by
  dsimp only [pdat]; exact Pipeline.Dat.Φ_castSucc (fun n _ => Inv m c n) t

theorem in0 (c : Dev nD) (t : Fin cfg0.N) (d) : (pdat m 0 c).before 0 t d = iblk m c 0 t :=
  before0_0_of m (pdat m 0 c) (A_eq m c 0) (fun _ => by dsimp only [pdat]) t d
theorem in1 (c : Dev nD) (t : Fin cfg0.N) (d) : (pdat m 0 c).before 1 t d = iblk m c 1 t :=
  before0_1_of m (pdat m 0 c) (A_eq m c 1) (fun _ => by dsimp only [pdat]) t d
theorem in2 (c : Dev nD) (t : Fin cfg0.N) (d) : (pdat m 0 c).before 2 t d = iblk m c 2 t :=
  before0_2_of m (pdat m 0 c) (A_eq m c 2) (fun _ => by dsimp only [pdat]) t d
theorem in3 (c : Dev nD) (t : Fin cfg0.N) (d) : (pdat m 0 c).before 3 t d = iblk m c 3 t :=
  before0_3_of m (pdat m 0 c) (A_eq m c 3) (fun _ => by dsimp only [pdat]) t d
theorem in4 (c : Dev nD) (t : Fin cfg0.N) (d) : (pdat m 0 c).before 4 t d = iblk m c 4 t :=
  before0_4_of m (pdat m 0 c) (A_eq m c 4) (fun _ => by dsimp only [pdat]) t d
theorem in5 (c : Dev nD) (t : Fin cfg0.N) (d) : (pdat m 0 c).before 5 t d = iblk m c 5 t :=
  before0_5_of m (pdat m 0 c) (A_eq m c 5) (fun _ => by dsimp only [pdat]) t d

/-- At a point that does not start a block of rows the second result's buffer still holds the block's product,
    stored at the first of the four points. -/
theorem before7 (c : Dev nD) (d) : ∀ (n : ℕ) (t : Fin cfg0.N), t.val % 4 = n + 1 →
    (pdat m 0 c).before 7 t d = outT m c t := by
  intro n
  induction n with
  | zero =>
    intro t ht
    have hN : t.val < 128 := t.isLt
    have hp : t.val - 1 < cfg0.N := Nat.lt_of_le_of_lt (Nat.sub_le _ _) t.isLt
    have hfl : (cfg0.win 7).flush ⟨t.val - 1, hp⟩ = false :=
      Bool.eq_false_iff.mpr fun h => by have := (flush0_7 ⟨t.val - 1, hp⟩).mp h; dsimp only at this; omega
    have hid : cfg0.idle 7 (cfg0.grid.coords ⟨t.val - 1, hp⟩) = false :=
      Bool.eq_false_iff.mpr fun h => (idle7 ⟨t.val - 1, hp⟩).mp h (by dsimp only; omega)
    rw [(pdat m 0 c).before_of_pos 7 t (by omega) ((cfg0.win 7).fetch_out rfl t), hfl, if_neg Bool.false_ne_true]
    unfold Dat.left; rw [hid]
    show (pdat m 0 c).kept 7 ⟨t.val - 1, hp⟩ d = _
    have hk : (pdat m 0 c).kept 7 ⟨t.val - 1, hp⟩ d = (pdat m 0 c).after 7 ⟨t.val - 1, hp⟩ := by
      unfold Dat.kept
      rw [Pipeline.fill_of_clip_none 7 _ (fun _ => rfl) d ((pdat m 0 c).after 7 ⟨t.val - 1, hp⟩), Window.fill_cut]
    rw [hk, after7]
    exact outT_same m c _ t (by dsimp only; omega)
  | succ n ih =>
    intro t ht
    have hN : t.val < 128 := t.isLt
    have hp : t.val - 1 < cfg0.N := Nat.lt_of_le_of_lt (Nat.sub_le _ _) t.isLt
    have hfl : (cfg0.win 7).flush ⟨t.val - 1, hp⟩ = false :=
      Bool.eq_false_iff.mpr fun h => by have := (flush0_7 ⟨t.val - 1, hp⟩).mp h; dsimp only at this; omega
    have hid : cfg0.idle 7 (cfg0.grid.coords ⟨t.val - 1, hp⟩) = true :=
      (idle7 ⟨t.val - 1, hp⟩).mpr (by dsimp only; omega)
    rw [(pdat m 0 c).before_of_pos 7 t (by omega) ((cfg0.win 7).fetch_out rfl t), hfl, if_neg Bool.false_ne_true]
    unfold Dat.left; rw [hid]
    show (pdat m 0 c).before 7 ⟨t.val - 1, hp⟩ d = _
    rw [ih ⟨t.val - 1, hp⟩ (by dsimp only; omega)]
    exact outT_same m c _ t (by dsimp only; omega)

/-! ## The body at a point -/

/-- What the body is handed at a point. -/
def handed (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ d, owns (c : Thread nD τ) (st0_7 t) fullShare ((pdat m 0 c).before 7 t d)))

/-- What it gives back. -/
def given (c : Dev nD) (t : Fin cfg0.N) : sProp 𝕄 :=
  iprop((pdat m 0 c).Φ t.succ ∗ (pdat m 0 c).owesAt () t.succ
    ∗ (pdat m 0 c).leavesExact 0 t ∗ (pdat m 0 c).leavesExact 1 t ∗ (pdat m 0 c).leavesExact 2 t
    ∗ (pdat m 0 c).leavesExact 3 t ∗ (pdat m 0 c).leavesExact 4 t ∗ (pdat m 0 c).leavesExact 5 t
    ∗ (pdat m 0 c).leavesExact 6 t ∗ (pdat m 0 c).leavesExact 7 t)

theorem leaves0 (c : Dev nD) (t : Fin cfg0.N) : (pdat m 0 c).leavesExact 0 t = owns (c : Thread nD τ) (st0_0 t) fullShare (iblk m c 0 t) := rfl
theorem leaves1 (c : Dev nD) (t : Fin cfg0.N) : (pdat m 0 c).leavesExact 1 t = owns (c : Thread nD τ) (st0_1 t) fullShare (iblk m c 1 t) := rfl
theorem leaves2 (c : Dev nD) (t : Fin cfg0.N) : (pdat m 0 c).leavesExact 2 t = owns (c : Thread nD τ) (st0_2 t) fullShare (iblk m c 2 t) := rfl
theorem leaves3 (c : Dev nD) (t : Fin cfg0.N) : (pdat m 0 c).leavesExact 3 t = owns (c : Thread nD τ) (st0_3 t) fullShare (iblk m c 3 t) := rfl
theorem leaves4 (c : Dev nD) (t : Fin cfg0.N) : (pdat m 0 c).leavesExact 4 t = owns (c : Thread nD τ) (st0_4 t) fullShare (iblk m c 4 t) := rfl
theorem leaves5 (c : Dev nD) (t : Fin cfg0.N) : (pdat m 0 c).leavesExact 5 t = owns (c : Thread nD τ) (st0_5 t) fullShare (iblk m c 5 t) := rfl
theorem leaves6 (c : Dev nD) (t : Fin cfg0.N) : (pdat m 0 c).leavesExact 6 t = owns (c : Thread nD τ) (st0_6 t) fullShare (outB m c t) := rfl

/-- Before and after a point that leaves the second result's buffer alone: whether or not the point writes it
    back, what the point finds there is what it must leave. -/
theorem leaves7_next (c : Dev nD) (t : Fin cfg0.N) (h : ¬ t.val % 4 = 0) (d) :
    owns (c : Thread nD τ) (st0_7 t) fullShare ((pdat m 0 c).before 7 t d) ⊢ (pdat m 0 c).leavesExact 7 t := by
  have hid : cfg0.idle 7 (cfg0.grid.coords t) = true := (idle7 t).mpr h
  unfold Dat.leavesExact; rw [hid]
  cases hf : (cfg0.win 7).flush t
  · iintro H; iexists _; iexact H
  · rw [before7 m c d (t.val % 4 - 1) t (by omega), after7]

theorem leaves7_first (c : Dev nD) (t : Fin cfg0.N) (h : t.val % 4 = 0) :
    (pdat m 0 c).leavesExact 7 t = owns (c : Thread nD τ) (st0_7 t) fullShare (outT m c t) := by
  have hid : cfg0.idle 7 (cfg0.grid.coords t) = false := Bool.eq_false_iff.mpr fun e => (idle7 t).mp e h
  unfold Dat.leavesExact; rw [hid, after7]

/-- The body at any point. -/
theorem body_at (c : Dev nD) (t : Fin cfg0.N) :
    handed m c t ⊢ wp frame (wpE (defs₀ (F := F)) Variants.none c none) Set.univ (bodyAt0 t) (fun _ => given m c t) := by
  unfold handed given bodyAt0
  simp only [in0, in1, in2, in3, in4, in5, leaves0, leaves1, leaves2, leaves3, leaves4, leaves5, leaves6]
  rw [show (pdat m 0 c).owesAt () t.succ = (pdat m 0 c).owesAt () t.castSucc from rfl, Inv_at,
    show (pdat m 0 c).Φ t.succ = Inv m c (t.val + 1) from rfl]
  unfold Inv
  have hN : t.val < 128 := t.isLt
  have hnew : Kept m c (t.val + 1) (rows m c t) := fun s hs => by
    rw [show s = t from Fin.ext (by omega)]
  by_cases h : t.val % 4 = 0
  · rw [leaves7_first m c t h]
    iintro ⟨⟨⟨%u, %hu, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ _ _ ((cond_iff t).mpr h)
      (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexists _; iexact HS
    iintro ⟨H0, H1, H2, H3, H4, H5, H6, H7, HS⟩
    isplitl [HS Hg]
    · isplitl [HS]
      · iexists (rows m c t); isplitr; · ipureintro; exact hnew
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨%u, %hu, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : u = rows m c t :=
      (hu ⟨t.val - 1, Nat.lt_of_le_of_lt (Nat.sub_le _ _) t.isLt⟩ (by dsimp only; omega)).trans
        (rows_same m c _ t (by dsimp only; omega))
    iapply (run_next c (grid0.coords t) _ _ _ _ _ _ _ _ _ _ _ _ _ _ _ _ _ _ (fun e => h ((cond_iff t).mp e))
      (iblk m c 4 t) (rows m c t) Set.univ _)
    isplitl [H4]; · iexact H4
    isplitl [H6]; · iexists _; iexact H6
    isplitl [HS]; · iexact HS
    iintro ⟨H4, H6, HS⟩
    isplitl [HS Hg]
    · isplitl [HS]
      · iexists (rows m c t); isplitr; · ipureintro; exact hnew
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves7_next m c t h d7); iexact H7

theorem obligation (c : Dev nD) : BodyObligation (pdat (F := F) m 0 c) (defs₀ (F := F)) Variants.none () Set.univ := fun t => by
  rw [bigSep_W0, bigSep_W0]
  exact triple_restated (body_at m c t) (by unfold defs₀; rw [Defs.onTc_tc]) .rfl fun _ => .rfl

/-- The invariant at any point forgets to what the call is handed, and before the first point nothing more is known. -/
theorem rest_eq (c : Dev nD) : (Pipeline.ΦA spec0 c : sProp 𝕄)
    = iprop((∃ d, owns (c : Thread nD τ) scr fullShare d) ∗ (∃ r, prngReg c r)) := by
  unfold Pipeline.ΦA; rw [scopedRest0_eq]; simp only [scr, owns_whole]
  rfl

theorem enter (c : Dev nD) : Pipeline.ΦA spec0 c ⊢ (pdat m 0 c).Φ 0 := by
  rw [show (pdat m 0 c).Φ 0 = Inv m c 0 from rfl, rest_eq]; unfold Inv
  iintro ⟨⟨%d, H⟩, Hg⟩
  isplitl [H]
  · iexists d; isplitr; · ipureintro; exact fun s hs => absurd hs (by omega)
    iexact H
  iexact Hg

theorem leave (c : Dev nD) : (pdat m 0 c).Φ (Fin.last cfg0.N) ⊢ Pipeline.ΦA spec0 c := by
  rw [show (pdat m 0 c).Φ (Fin.last cfg0.N) = Inv m c cfg0.N from rfl, rest_eq]; unfold Inv
  iintro ⟨⟨%d, %hd, H⟩, Hg⟩
  isplitl [H]
  · iexists d; iexact H
  iexact Hg

/-! ## The run -/

set_option backward.isDefEq.respectTransparency.types false in
/-- Every run ends, with every array at what the proof data leave in it and every counter at zero. -/
theorem run_all : θ_run defs (onTc (τ := τ) (main (F := F))) (s₀ m ρ)
    (fun r => Pipeline.FramePost cfgs (pdat m) 0 (V m) r ∧ r.2.sem = fun _ => 0) :=
  Pipeline.θ_run_frame_track (Q' := _) cfgs (pdat m) (0 : Fin 1) launch0 defs₀ Variants.none m ρ main
    (hbody := fun c => (obligation m c).loose) (hshare := fun _ _ => by unfold Dat.share; dsimp only [pdat]; split <;> rfl) (howed := fun _ _ => rfl) (V := V m)
    (hmain := hmain m Variants.none) (hA := A_eq m) (hin := enter m) (hout := leave m)

/-- Every run ends, with the argument arrays unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (pdat m) (A_eq m) ((θ_run defs _ _).mono (fun _ h => h.1) (run_all m ρ)))
    ((θ_run defs _ _).mono (fun _ h => h.2) (run_all m ρ))

end Cert.Kernel2Ideal.Proj

end
-- ==== Proof.ProjValue.lean ====
/- What the input projection writes: the modulated normalised rows, times one matrix and under the other. -/
module

public import proofs.«01_k».proof.Proof.ProjFrame

@[expose] public section

set_option maxRecDepth 16384

noncomputable section

namespace Cert.Kernel2Ideal.Proj

open Idealize.ShloMosaic Idealize.ShloMosaic.TcCoe Idealize.SL.Sem
open Cert.Kernel2Ideal Cert.Kernel2Ideal.Gen

variable (m : (ℓ : Loc nD τ sig) → Buf (Elt Ideal) ℓ)

/-- The layer's input. -/
abbrev aX (c : Dev nD) : FVec Ideal S2x8192x1024 .f32 := m ((c : Thread nD τ).loc main_arg0)
/-- The norm's gain. -/
abbrev aG (c : Dev nD) : FVec Ideal S1024 .f32 := m ((c : Thread nD τ).loc main_arg1)
/-- The modulation's shift. -/
abbrev aH (c : Dev nD) : FVec Ideal S2x1x1024 .f32 := m ((c : Thread nD τ).loc main_arg2)
/-- The modulation's scale. -/
abbrev aS (c : Dev nD) : FVec Ideal S2x1x1024 .f32 := m ((c : Thread nD τ).loc main_arg3)
/-- The matrix of the first result. -/
abbrev aW (c : Dev nD) : FVec Ideal S1024x8192 .bf16 := m ((c : Thread nD τ).loc main_arg4)
/-- The matrix of the second result. -/
abbrev aT (c : Dev nD) : FVec Ideal S1536x1024 .bf16 := m ((c : Thread nD τ).loc main_arg5)

theorem x_at (c : Dev nD) (r : Fin 16384) (l : Fin 1024) :
    V m c main_v0 (ix2 r l) = aX m c (ix3 ⟨r.val / 8192, by omega⟩ ⟨r.val % 8192, by omega⟩ l) := by
  simp only [V, hostOps0]
  after_results_simp
  pointwise []

theorem g_at (c : Dev nD) (r : Fin 1) (l : Fin 1024) : V m c main_v1 (ix2 r l) = aG m c (ix1 l) := by
  simp only [V, hostOps0]
  after_results_simp
  pointwise []

/-! ## What the results are -/

/-- One entry of a row, normalised and modulated: the entry over the root of the row's mean square, times the
    gain, times one plus the scale, plus the shift. -/
def entry (x : Fin 1024 → EReal) (k : Fin 1024) (g s h : EReal) : EReal :=
  x k * Ideal.rsqrt (Ideal.div (∑ l, x l * x l) (Ideal.ofBits .f32 0x44800000#32) + Ideal.ofBits .f32 0x358637BD#32) * g * (1 + s) + h

/-- The normalised, modulated rows of all tokens. -/
def u (X : FVec Ideal S2x8192x1024 .f32) (G : FVec Ideal S1024 .f32) (H S : FVec Ideal S2x1x1024 .f32) (r : Fin 16384) (k : Fin 1024) : EReal :=
  entry (fun l => X (ix3 ⟨r.val / 8192, by omega⟩ ⟨r.val % 8192, by omega⟩ l)) k (G (ix1 k))
    (S (ix3 ⟨r.val / 8192, by omega⟩ 0 k)) (H (ix3 ⟨r.val / 8192, by omega⟩ 0 k))

/-- The rows times `W`. -/
def left (X : FVec Ideal S2x8192x1024 .f32) (G : FVec Ideal S1024 .f32) (H S : FVec Ideal S2x1x1024 .f32)
    (W : FVec Ideal S1024x8192 .bf16) : FVec Ideal S16384x8192 .f32 :=
  fun i => (∑ k : Fin 1024, u X G H S (i 0) k * W (ix2 k (i 1)) : EReal)

/-- The rows under `T`, one column a token. -/
def under (X : FVec Ideal S2x8192x1024 .f32) (G : FVec Ideal S1024 .f32) (H S : FVec Ideal S2x1x1024 .f32)
    (T : FVec Ideal S1536x1024 .bf16) : FVec Ideal S1536x16384 .f32 :=
  fun i => (∑ k : Fin 1024, T (ix2 (i 0) k) * u X G H S (i 1) k : EReal)

/-! ## What a point computes -/

theorem pay1_at (x : Vec Ideal S512x1024 .f32) (g : Vec Ideal S1x1024 .f32) (s h : Vec Ideal S1x1x1024 .f32) (r : Fin 512) (l : Fin 1024) :
    k0_pay1 x g s h (ix2 r l) = entry (fun k => x (ix2 r k)) l (g (ix2 0 l)) (s (ix3 0 0 l)) (h (ix3 0 0 l)) := by
  simp only [k0_pay1, entry]
  pointwise []

theorem pay2_at (x : Vec Ideal S512x1024 .f32) (g : Vec Ideal S1x1024 .f32) (s h : Vec Ideal S1x1x1024 .f32) (r : Fin 512) (l : Fin 1024) :
    k0_pay2 x g s h (ix2 r l) = k0_pay1 x g s h (ix2 r l) := by
  simp only [k0_pay2]
  pointwise []

theorem pay4_at (v : Vec Ideal S512x1024 .bf16) (w : Vec Ideal S1024x2048 .bf16) (r : Fin 512) (l : Fin 2048) :
    k0_pay4 v w (ix2 r l) = (∑ k : Fin 1024, v (ix2 r k) * w (ix2 k l) : EReal) := by
  simp only [k0_pay4]
  pointwise []

theorem pay3_at (x : Vec Ideal S512x1024 .f32) (g : Vec Ideal S1x1024 .f32) (s h : Vec Ideal S1x1x1024 .f32) (w : Vec Ideal S1536x1024 .bf16)
    (r : Fin 1536) (l : Fin 512) :
    k0_pay3 x g s h w (ix2 r l) = (∑ k : Fin 1024, w (ix2 r k) * k0_pay1 x g s h (ix2 l k) : EReal) := by
  simp only [k0_pay3]
  pointwise []

section
variable (c : Dev nD) (t : Fin cfg0.N)

theorem rows_at (r : Fin 512) (k : Fin 1024) :
    k0_pay1 (iblk m c 0 t) (iblk m c 1 t) (iblk m c 3 t) (iblk m c 2 t) (ix2 r k) = u (aX m c) (aG m c) (aH m c) (aS m c) (gr t r) k := by
  have hb : (⟨(gr t r).val / 8192, by omega⟩ : Fin 2) = gb t := Fin.ext (by simp only [gr, gb]; omega)
  rw [pay1_at]
  unfold u
  rw [hb, raw1 m c t, raw2 m c t, raw3 m c t, g_at, V_main_arg2, V_main_arg3]
  refine congrArg (fun z => entry z k _ _ _) (funext fun l => ?_)
  rw [raw0 m c t, x_at, hb]

theorem outB_at (r : Fin 512) (l : Fin 2048) :
    outB m c t (ix2 r l) = left (aX m c) (aG m c) (aH m c) (aS m c) (aW m c) (ix2 (gr t r) ⟨2048 * (t.val % 4) + l.val, by omega⟩) := by
  unfold outB rows
  rw [pay4_at]
  refine Finset.sum_congr rfl fun k _ => ?_
  rw [pay2_at, rows_at, raw4 m c t, V_main_arg4]
  rfl

theorem outT_at (r : Fin 1536) (l : Fin 512) :
    outT m c t (ix2 r l) = under (aX m c) (aG m c) (aH m c) (aS m c) (aT m c) (ix2 r (gr t l)) := by
  unfold outT
  rw [pay3_at]
  refine Finset.sum_congr rfl fun k _ => ?_
  rw [rows_at, raw5 m c t, V_main_arg5]
  rfl

end

/-! ## What the run leaves -/

/-- The first result: the points' blocks cover it. -/
theorem arr_left (c : Dev nD) : (pdat m 0 c).arrAt 6 cfg0.N = left (aX m c) (aG m c) (aH m c) (aS m c) (aW m c) := by
  refine (pdat m 0 c).arrAt_eq_of_covers 6 _ (by decide +kernel) fun t hf y => ?_
  rw [after6]
  have hi := idx6 t
  have h0 : (y 0).val < 512 := (y 0).isLt
  have h1 : (y 1).val < 2048 := (y 1).isLt
  refine ((congrArg (outB m c t) (eq_ix2 y)).trans (outB_at m c t (y 0) (y 1))).trans (congrArg _ ?_)
  refine funext fun a => match a with
    | ⟨0, _⟩ => Fin.ext ?_
    | ⟨1, _⟩ => Fin.ext ?_
  · show 512 * (t.val / 4) + (y 0).val = win0_6.index t 0 * 512 + 1 * (y 0).val
    rw [hi]
    show 512 * (t.val / 4) + (y 0).val = t.val / 4 * 512 + 1 * (y 0).val
    omega
  · show 2048 * (t.val % 4) + (y 1).val = win0_6.index t 1 * 2048 + 1 * (y 1).val
    rw [hi]
    show 2048 * (t.val % 4) + (y 1).val = t.val % 4 * 2048 + 1 * (y 1).val
    omega

/-- The second result: each fourth point writes back the block its rows give, and those blocks cover it. -/
theorem arr_under (c : Dev nD) : (pdat m 0 c).arrAt 7 cfg0.N = under (aX m c) (aG m c) (aH m c) (aS m c) (aT m c) := by
  refine (pdat m 0 c).arrAt_eq_of_covers 7 _ (by decide +kernel) fun t hf y => ?_
  rw [after7]
  have hi := idx7 t
  have h0 : (y 0).val < 1536 := (y 0).isLt
  have h1 : (y 1).val < 512 := (y 1).isLt
  refine ((congrArg (outT m c t) (eq_ix2 y)).trans (outT_at m c t (y 0) (y 1))).trans (congrArg _ ?_)
  refine funext fun a => match a with
    | ⟨0, _⟩ => Fin.ext ?_
    | ⟨1, _⟩ => Fin.ext ?_
  · show (y 0).val = win0_7.index t 0 * 1536 + 1 * (y 0).val
    rw [hi]
    show (y 0).val = 0 * 1536 + 1 * (y 0).val
    omega
  · show 512 * (t.val / 4) + (y 1).val = win0_7.index t 1 * 512 + 1 * (y 1).val
    rw [hi]
    show 512 * (t.val / 4) + (y 1).val = t.val / 4 * 512 + 1 * (y 1).val
    omega

/-- Every run of the input projection ends with its two results the rows times `W` and the rows under `T`, and its
    arguments as they were. -/
theorem run_value (ρ : Dev nD → PrngReg) : θ_run defs (onTc (τ := τ) (main (F := Ideal))) ⟨m, fun _ => 0, ρ⟩ (fun r => ∀ c : Dev nD,
      r.2.mem ((c.tc : Thread nD τ).loc main_v2_0) = left (aX m c) (aG m c) (aH m c) (aS m c) (aW m c)
      ∧ r.2.mem ((c.tc : Thread nD τ).loc main_v2_1) = under (aX m c) (aG m c) (aH m c) (aS m c) (aT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1.1 c).1 6).trans (arr_left m c), ((h.1.1 c).1 7).trans (arr_under m c), h.2.1 c⟩)
    (θ_run_and (run_all m ρ) (frame_all m ρ))

end Cert.Kernel2Ideal.Proj

end
-- ==== Proof.ProjPlain.lean ====
/- What the plain projection computes: the same rows, times one matrix and under the other. -/
module

public import proofs.«01_k».proof.Proof.ProjValue
public import proofs.«01_k».proof.Proof.Gen.Reference2Ideal.Run

@[expose] public section

set_option maxRecDepth 16384

noncomputable section

namespace Cert.Reference2Ideal.Plain

open Idealize.ShloMosaic Idealize.ShloMosaic.TcCoe Idealize.SL.Sem
open Cert.Kernel2Ideal.Proj (ext2 entry u left under)
open Cert.Reference2Ideal Cert.Reference2Ideal.Gen

variable (X : FVec Ideal S2x8192x1024 .f32) (G : FVec Ideal S1024 .f32) (H S : FVec Ideal S2x1x1024 .f32)

/-- One over the root of each token's mean square. -/
def inv : FVec Ideal S2x8192x1 .f32 :=
  Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_))
    (broadcastInDim S2x8192x1 ![] bcast_S_S2x8192x1 (constant S_ .f32 0x44800000#32))) (broadcastInDim S2x8192x1 ![] bcast_S_S2x8192x1 (constant S_ .f32 0x358637BD#32)))

theorem inv_at (b : Fin 2) (t : Fin 8192) : inv X (ix3 b t 0)
    = Ideal.rsqrt (Ideal.div (∑ l : Fin 1024, X (ix3 b t l) * X (ix3 b t l)) (Ideal.ofBits .f32 0x44800000#32) + Ideal.ofBits .f32 0x358637BD#32) := by
  unfold inv
  pointwise []

/-- The tokens times those, the gain and one plus the scale, plus the shift. -/
def tokens (V : FVec Ideal S2x8192x1 .f32) : FVec Ideal S2x8192x1024 .f32 :=
  addf (mulf (mulf (mulf X (broadcastInDim S2x8192x1024 ![0, 1, 2] bcast_S2x8192x1_S2x8192x1024_0_1_2 V))
      (broadcastInDim S2x8192x1024 ![0, 1, 2] bcast_S1x1x1024_S2x8192x1024_0_1_2 (broadcastInDim S1x1x1024 ![2] bcast_S1024_S1x1x1024_2 G)))
    (broadcastInDim S2x8192x1024 ![0, 1, 2] bcast_S2x1x1024_S2x8192x1024_0_1_2 (addf (broadcastInDim S2x1x1024 ![] bcast_S_S2x1x1024 (constant S_ .f32 0x3F800000#32)) S)))
    (broadcastInDim S2x8192x1024 ![0, 1, 2] bcast_S2x1x1024_S2x8192x1024_0_1_2 H)

theorem tokens_at (V : FVec Ideal S2x8192x1 .f32) (b : Fin 2) (t : Fin 8192) (k : Fin 1024) :
    tokens X G H S V (ix3 b t k) = X (ix3 b t k) * V (ix3 b t 0) * G (ix1 k) * (1 + S (ix3 b 0 k)) + H (ix3 b 0 k) := by
  unfold tokens
  pointwise []

/-- The tokens of all sequences, one under the other. -/
theorem flat_at (A : FVec Ideal S2x8192x1024 .f32) (r : Fin 16384) (k : Fin 1024) :
    shapeCast S16384x1024 A shapeCasts_S2x8192x1024_S16384x1024 (ix2 r k)
      = A (ix3 ⟨r.val / 8192, by omega⟩ ⟨r.val % 8192, by omega⟩ k) := by
  pointwise []

theorem plain_row (r : Fin 16384) (k : Fin 1024) :
    shapeCast S16384x1024 (tokens X G H S (inv X)) shapeCasts_S2x8192x1024_S16384x1024 (ix2 r k) = u X G H S r k := by
  rw [flat_at, tokens_at, inv_at]
  rfl

/-- The first product, entry by entry. -/
theorem prod_at (A : FVec Ideal S16384x1024 .f32) (W : FVec Ideal S1024x8192 .bf16) (r : Fin 16384) (l : Fin 8192) :
    Host.dotGeneral dot_S16384x1024_S1024x8192_S16384x8192_1_0_0_1_n_n none A (extf .f32 W bitsLt_bf16_f32) (ix2 r l)
      = (∑ k : Fin 1024, A (ix2 r k) * W (ix2 k l) : EReal) := by
  pointwise []

/-- The second product, turned, entry by entry. -/
theorem turned_at (A : FVec Ideal S16384x1024 .f32) (T : FVec Ideal S1536x1024 .bf16) (l : Fin 1536) (r : Fin 16384) :
    transpose S1536x16384 [1, 0] (Host.dotGeneral dot_S16384x1024_S1024x1536_S16384x1536_1_0_0_1_n_n none A
        (transpose S1024x1536 [1, 0] (extf .f32 T bitsLt_bf16_f32) transposes_S1536x1024_S1024x1536_1_0)) transposes_S16384x1536_S1536x16384_1_0 (ix2 l r)
      = (∑ k : Fin 1024, A (ix2 r k) * T (ix2 l k) : EReal) := by
  pointwise []

theorem plain_left (W : FVec Ideal S1024x8192 .bf16) :
    Host.dotGeneral dot_S16384x1024_S1024x8192_S16384x8192_1_0_0_1_n_n none
        (shapeCast S16384x1024 (tokens X G H S (inv X)) shapeCasts_S2x8192x1024_S16384x1024) (extf .f32 W bitsLt_bf16_f32)
      = left X G H S W := by
  refine ext2 fun r l => (prod_at _ W r l).trans (Finset.sum_congr rfl fun k _ => ?_)
  rw [plain_row]
  rfl

theorem plain_under (T : FVec Ideal S1536x1024 .bf16) :
    transpose S1536x16384 [1, 0] (Host.dotGeneral dot_S16384x1024_S1024x1536_S16384x1536_1_0_0_1_n_n none
        (shapeCast S16384x1024 (tokens X G H S (inv X)) shapeCasts_S2x8192x1024_S16384x1024)
        (transpose S1024x1536 [1, 0] (extf .f32 T bitsLt_bf16_f32) transposes_S1536x1024_S1024x1536_1_0)) transposes_S16384x1536_S1536x16384_1_0
      = under X G H S T := by
  refine ext2 fun l r => (turned_at _ T l r).trans (Finset.sum_congr rfl fun k _ => ?_)
  rw [plain_row, mul_comm]
  rfl

/-- Every run of the plain projection ends with the same two arrays, of its own arguments. -/
theorem run_plain (m' : (ℓ : Loc nD τ sig) → Buf (Elt Ideal) ℓ)
    (ρ : Dev nD → PrngReg) :
    θ_run defs (onTc (τ := τ) (main (F := Ideal))) ⟨m', fun _ => 0, ρ⟩ (fun r => ∀ c : Dev nD,
      (r.2.mem ((c.tc : Thread nD τ).loc main_v21)
          = left (m' ((c.tc : Thread nD τ).loc main_arg0))
              (m' ((c.tc : Thread nD τ).loc main_arg1))
              (m' ((c.tc : Thread nD τ).loc main_arg2))
              (m' ((c.tc : Thread nD τ).loc main_arg3))
              (m' ((c.tc : Thread nD τ).loc main_arg4))
      ∧ r.2.mem ((c.tc : Thread nD τ).loc main_v25)
          = under (m' ((c.tc : Thread nD τ).loc main_arg0))
              (m' ((c.tc : Thread nD τ).loc main_arg1))
              (m' ((c.tc : Thread nD τ).loc main_arg2))
              (m' ((c.tc : Thread nD τ).loc main_arg3))
              (m' ((c.tc : Thread nD τ).loc main_arg5)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) := by
  refine (θ_run defs _ _).mono (fun r h c => ⟨⟨(h c).1.trans (plain_left _ _ _ _ _), (h c).2.1.trans (plain_under _ _ _ _ _)⟩, (h c).2.2⟩)
    (Cert.Reference2Ideal.Value.run (F := Ideal) m' ρ)

end Cert.Reference2Ideal.Plain

end
-- ==== Proof.MergeValue.lean ====
/- What the merge of the branches writes: the layer's input plus the gate times the output projection of the branches'
   products, each times its own gates. -/
module

public import proofs.«01_k».proof.Proof.ProjFrame
public import proofs.«01_k».proof.Proof.Gen.Kernel3Ideal.Value

@[expose] public section

set_option maxRecDepth 16384

noncomputable section

namespace Cert.Kernel3Ideal.Merge

open Idealize.ShloMosaic Idealize.ShloMosaic.TcCoe Idealize.SL.Sem
open Cert.Kernel2Ideal.Proj (ext2)
open Cert.Kernel3Ideal Cert.Kernel3Ideal.Gen

/-! ## What the result is -/

section
variable (X : FVec Ideal S2x8192x1024 .f32) (P : FVec Ideal S16384x8192 .f32) (R : FVec Ideal S16384x1024 .bf16) (C : FVec Ideal S16384x512 .bf16)
  (H : FVec Ideal S512x16384 .f32) (G : FVec Ideal S2x1x1024 .f32) (Wr : FVec Ideal S1024x1024 .f32) (Wc Wh : FVec Ideal S512x1024 .f32)
  (Wo : FVec Ideal S1024x1024 .f32)

/-- The three branches' products of a token, each times its gates. -/
def mixed (r : Fin 16384) (j : Fin 1024) : EReal :=
  Ideal.logistic (P (ix2 r ⟨4096 + j.val, by omega⟩)) * (∑ k : Fin 1024, R (ix2 r k) * Wr (ix2 k j))
    + Ideal.logistic (P (ix2 r ⟨5120 + j.val, by omega⟩)) * (∑ k : Fin 512, C (ix2 r k) * Wc (ix2 k j))
    + Ideal.logistic (P (ix2 r ⟨6144 + j.val, by omega⟩)) * (∑ k : Fin 512, H (ix2 k r) * Wh (ix2 k j))

/-- The token, plus the gate times its merged branches under the output projection. -/
def merged : FVec Ideal S16384x1024 .f32 := fun i =>
  (X (ix3 ⟨(i 0).val / 8192, by have : (i 0).val < 16384 := (i 0).isLt; omega⟩ ⟨(i 0).val % 8192, by omega⟩ (i 1))
    + G (ix3 ⟨(i 0).val / 8192, by have : (i 0).val < 16384 := (i 0).isLt; omega⟩ 0 (i 1))
      * (∑ j : Fin 1024, mixed P R C H Wr Wc Wh (i 0) j * Wo (ix2 j (i 1))) : EReal)

end

/-! ## What a point computes of its blocks -/

theorem pay1_at (v12 : FVec Ideal S512x1024 .f32) (v26 v30 v32 v33 : FVec Ideal S512x512 .f32) (v36 : Vec Ideal S512x512 .f32)
    (v43 : Vec Ideal S1024x1024 .bf16) (v46 : Vec Ideal S512x1024 .f32) (v48 : Vec Ideal S1x1x1024 .f32) (r : Fin 512) (l : Fin 1024) :
    k0_pay1 v12 v26 v30 v32 v33 v36 v43 v46 v48 (ix2 r l) = v46 (ix2 r l) + v48 (ix3 0 0 l)
      * (∑ x : Fin 512, v26 (ix2 r x) * v43 (ix2 ⟨x.val, by omega⟩ l)
        + ∑ x : Fin 512, (v30 (ix2 r x) + v32 (ix2 r x) * v33 (ix2 r x) + Ideal.logistic (v36 (ix2 r x)) * v12 (ix2 r ⟨512 + x.val, by omega⟩))
          * v43 (ix2 ⟨512 + x.val, by omega⟩ l)) := by
  simp only [k0_pay1]
  pointwise []

theorem pay2_at (v : Vec Ideal S512x1024 .bf16) (w : Vec Ideal S1024x1024 .bf16) (r : Fin 512) (l : Fin 1024) :
    k0_pay2 v w (ix2 r l) = (∑ k : Fin 1024, v (ix2 r k) * w (ix2 k l) : EReal) := by
  simp only [k0_pay2]
  pointwise []

theorem pay3_at (v : Vec Ideal S512x512 .bf16) (w : Vec Ideal S512x1024 .bf16) (r : Fin 512) (l : Fin 1024) :
    k0_pay3 v w (ix2 r l) = (∑ k : Fin 512, v (ix2 r k) * w (ix2 k l) : EReal) := by
  simp only [k0_pay3]
  pointwise []

theorem pay4_at (v : Vec Ideal S512x512 .f32) (w : Vec Ideal S512x1024 .bf16) (r : Fin 512) (l : Fin 1024) :
    k0_pay4 v w (ix2 r l) = (∑ k : Fin 512, v (ix2 k r) * w (ix2 k l) : EReal) := by
  simp only [k0_pay4]
  pointwise []

theorem pay5_at (v0 : Vec Ideal S512x1024 .bf16) (v1 : Vec Ideal S1024x1024 .bf16) (v4 : Vec Ideal S512x512 .bf16) (v5 : Vec Ideal S512x1024 .bf16)
    (v8 : Vec Ideal S512x512 .f32) (v10 : Vec Ideal S512x1024 .bf16) (v13 v17 v22 : Vec Ideal S512x512 .f32) (r j : Fin 512) :
    k0_pay5 v0 v1 v4 v5 v8 v10 v13 v17 v22 (ix2 r j) = Ideal.logistic (v13 (ix2 r j)) * k0_pay2 v0 v1 (ix2 r ⟨j.val, by omega⟩)
      + Ideal.logistic (v17 (ix2 r j)) * k0_pay3 v4 v5 (ix2 r ⟨j.val, by omega⟩)
      + Ideal.logistic (v22 (ix2 r j)) * k0_pay4 v8 v10 (ix2 r ⟨j.val, by omega⟩) := by
  simp only [k0_pay5]
  pointwise []

theorem pay6_at (v0 : Vec Ideal S512x1024 .bf16) (v1 : Vec Ideal S1024x1024 .bf16) (v27 : Vec Ideal S512x512 .f32) (r j : Fin 512) :
    k0_pay6 v0 v1 v27 (ix2 r j) = Ideal.logistic (v27 (ix2 r j)) * k0_pay2 v0 v1 (ix2 r ⟨512 + j.val, by omega⟩) := by
  simp only [k0_pay6]
  pointwise []

theorem pay7_at (v : Vec Ideal S512x512 .f32) (r j : Fin 512) : k0_pay7 v (ix2 r j) = Ideal.logistic (v (ix2 r j)) := by
  simp only [k0_pay7]
  pointwise []

theorem pay8_at (v4 : Vec Ideal S512x512 .bf16) (v5 : Vec Ideal S512x1024 .bf16) (r j : Fin 512) :
    k0_pay8 v4 v5 (ix2 r j) = k0_pay3 v4 v5 (ix2 r ⟨512 + j.val, by omega⟩) := by
  simp only [k0_pay8]
  pointwise []

/-! ## Which part of the arrays a point's blocks are -/

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, t.val] := by decide +kernel
theorem idx4 : ∀ t : Fin grid0.N, win0_4.index t = ![t.val, 8] := by decide +kernel
theorem idx5 : ∀ t : Fin grid0.N, win0_5.index t = ![t.val, 9] := by decide +kernel
theorem idx6 : ∀ t : Fin grid0.N, win0_6.index t = ![t.val, 10] := by decide +kernel
theorem idx7 : ∀ t : Fin grid0.N, win0_7.index t = ![t.val, 11] := by decide +kernel
theorem idx8 : ∀ t : Fin grid0.N, win0_8.index t = ![t.val, 12] := by decide +kernel
theorem idx9 : ∀ t : Fin grid0.N, win0_9.index t = ![t.val, 13] := by decide +kernel
theorem idx10 : ∀ t : Fin grid0.N, win0_10.index t = ![t.val / 16, 0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![0, 0] := by decide +kernel
theorem idx14 : ∀ t : Fin grid0.N, win0_14.index t = ![0, 0] := by decide +kernel
theorem idx15 : ∀ t : Fin grid0.N, win0_15.index t = ![t.val, 0] := by decide +kernel

section
variable (c : Dev nD) (t : Fin cfg0.N)

/-- The token that row `r` of a point's block is. -/
def gr (t : Fin cfg0.N) (r : Fin 512) : Fin 16384 := ⟨512 * t.val + r.val, by have := t.isLt; have : cfg0.N = 32 := rfl; omega⟩
/-- The sequence a point works on. -/
def gb (t : Fin cfg0.N) : Fin 2 := ⟨t.val / 16, by have := t.isLt; have : cfg0.N = 32 := rfl; omega⟩

theorem raw0 (r : Fin 512) (l : Fin 1024) : iblk m c 0 t (ix2 r l) = V m c main_v4 (ix2 (gr t r) l) := by
  blk_ext [iblk, idx0 t, gr]
theorem raw1 (r : Fin 512) (l : Fin 1024) : iblk m c 1 t (ix2 r l) = V m c main_arg2 (ix2 (gr t r) l) := by
  blk_ext [iblk, idx1 t, gr]
theorem raw2 (r l : Fin 512) : iblk m c 2 t (ix2 r l) = V m c main_arg3 (ix2 (gr t r) l) := by
  blk_ext [iblk, idx2 t, gr]
theorem raw3 (l r : Fin 512) : iblk m c 3 t (ix2 l r) = V m c main_arg4 (ix2 l (gr t r)) := by
  blk_ext [iblk, idx3 t, gr]
theorem raw4 (r j : Fin 512) : iblk m c 4 t (ix2 r j) = V m c main_arg1 (ix2 (gr t r) ⟨4096 + j.val, by omega⟩) := by
  blk_ext [iblk, idx4 t, gr]
theorem raw5 (r j : Fin 512) : iblk m c 5 t (ix2 r j) = V m c main_arg1 (ix2 (gr t r) ⟨4608 + j.val, by omega⟩) := by
  blk_ext [iblk, idx5 t, gr]
theorem raw6 (r j : Fin 512) : iblk m c 6 t (ix2 r j) = V m c main_arg1 (ix2 (gr t r) ⟨5120 + j.val, by omega⟩) := by
  blk_ext [iblk, idx6 t, gr]
theorem raw7 (r j : Fin 512) : iblk m c 7 t (ix2 r j) = V m c main_arg1 (ix2 (gr t r) ⟨5632 + j.val, by omega⟩) := by
  blk_ext [iblk, idx7 t, gr]
theorem raw8 (r j : Fin 512) : iblk m c 8 t (ix2 r j) = V m c main_arg1 (ix2 (gr t r) ⟨6144 + j.val, by omega⟩) := by
  blk_ext [iblk, idx8 t, gr]
theorem raw9 (r j : Fin 512) : iblk m c 9 t (ix2 r j) = V m c main_arg1 (ix2 (gr t r) ⟨6656 + j.val, by omega⟩) := by
  blk_ext [iblk, idx9 t, gr]
theorem raw10 (r s : Fin 1) (l : Fin 1024) : iblk m c 10 t (ix3 r s l) = V m c main_arg5 (ix3 (gb t) s l) := by
  blk_ext [iblk, idx10 t, gb]
theorem raw11 (k l : Fin 1024) : iblk m c 11 t (ix2 k l) = V m c main_v0 (ix2 k l) := by
  blk_ext [iblk, idx11 t]
theorem raw12 (k : Fin 512) (l : Fin 1024) : iblk m c 12 t (ix2 k l) = V m c main_v1 (ix2 k l) := by
  blk_ext [iblk, idx12 t]
theorem raw13 (k : Fin 512) (l : Fin 1024) : iblk m c 13 t (ix2 k l) = V m c main_v2 (ix2 k l) := by
  blk_ext [iblk, idx13 t]
theorem raw14 (k l : Fin 1024) : iblk m c 14 t (ix2 k l) = V m c main_v3 (ix2 k l) := by
  blk_ext [iblk, idx14 t]

/-! ## The arguments -/

/-- The layer's input. -/
abbrev aX : FVec Ideal S2x8192x1024 .f32 := m ((c : Thread nD τ).loc main_arg0)
/-- The projection's columns. -/
abbrev aP : FVec Ideal S16384x8192 .f32 := m ((c : Thread nD τ).loc main_arg1)
/-- What the retention, the Conformer and the Hyena branch end with. -/
abbrev aR : FVec Ideal S16384x1024 .bf16 := m ((c : Thread nD τ).loc main_arg2)
abbrev aC : FVec Ideal S16384x512 .bf16 := m ((c : Thread nD τ).loc main_arg3)
abbrev aH : FVec Ideal S512x16384 .f32 := m ((c : Thread nD τ).loc main_arg4)
/-- The residual's gate. -/
abbrev aG : FVec Ideal S2x1x1024 .f32 := m ((c : Thread nD τ).loc main_arg5)
/-- The weights of the three branches and of the output projection. -/
abbrev wR : FVec Ideal S1024x1024 .f32 := m ((c : Thread nD τ).loc main_arg6)
abbrev wC : FVec Ideal S512x1024 .f32 := m ((c : Thread nD τ).loc main_arg7)
abbrev wH : FVec Ideal S512x1024 .f32 := m ((c : Thread nD τ).loc main_arg8)
abbrev wO : FVec Ideal S1024x1024 .f32 := m ((c : Thread nD τ).loc main_arg9)

theorem x_at (r : Fin 16384) (l : Fin 1024) :
    V m c main_v4 (ix2 r l) = aX m c (ix3 ⟨r.val / 8192, by omega⟩ ⟨r.val % 8192, by omega⟩ l) := by
  simp only [V, hostOps0]
  after_results_simp
  pointwise []
theorem wR_at (k l : Fin 1024) : V m c main_v0 (ix2 k l) = wR m c (ix2 k l) := by
  simp only [V, hostOps0]
  after_results_simp
  pointwise []
theorem wC_at (k : Fin 512) (l : Fin 1024) : V m c main_v1 (ix2 k l) = wC m c (ix2 k l) := by
  simp only [V, hostOps0]
  after_results_simp
  pointwise []
theorem wH_at (k : Fin 512) (l : Fin 1024) : V m c main_v2 (ix2 k l) = wH m c (ix2 k l) := by
  simp only [V, hostOps0]
  after_results_simp
  pointwise []
theorem wO_at (k l : Fin 1024) : V m c main_v3 (ix2 k l) = wO m c (ix2 k l) := by
  simp only [V, hostOps0]
  after_results_simp
  pointwise []

/-! ## What a point writes -/

/-- The retention's product at a point. -/
theorem ret_at (r : Fin 512) (j : Fin 1024) :
    k0_pay2 (iblk m c 1 t) (iblk m c 11 t) (ix2 r j) = (∑ k : Fin 1024, aR m c (ix2 (gr t r) k) * wR m c (ix2 k j) : EReal) := by
  rw [pay2_at]
  refine Finset.sum_congr rfl fun k _ => ?_
  rw [raw1 m c t, raw11 m c t, wR_at, V_main_arg2]
/-- The Conformer's. -/
theorem conf_at (r : Fin 512) (j : Fin 1024) :
    k0_pay3 (iblk m c 2 t) (iblk m c 12 t) (ix2 r j) = (∑ k : Fin 512, aC m c (ix2 (gr t r) k) * wC m c (ix2 k j) : EReal) := by
  rw [pay3_at]
  refine Finset.sum_congr rfl fun k _ => ?_
  rw [raw2 m c t, raw12 m c t, wC_at, V_main_arg3]
/-- The Hyena's. -/
theorem hy_at (r : Fin 512) (j : Fin 1024) :
    k0_pay4 (iblk m c 3 t) (iblk m c 13 t) (ix2 r j) = (∑ k : Fin 512, aH m c (ix2 k (gr t r)) * wH m c (ix2 k j) : EReal) := by
  rw [pay4_at]
  refine Finset.sum_congr rfl fun k _ => ?_
  rw [raw3 m c t, raw13 m c t, wH_at, V_main_arg4]

/-- The merged branches of a token. -/
abbrev mix (r : Fin 16384) (j : Fin 1024) : EReal := mixed (aP m c) (aR m c) (aC m c) (aH m c) (wR m c) (wC m c) (wH m c) r j

/-- The columns of the first half. -/
theorem low_at (r j : Fin 512) :
    k0_pay5 (iblk m c 1 t) (iblk m c 11 t) (iblk m c 2 t) (iblk m c 12 t) (iblk m c 3 t) (iblk m c 13 t) (iblk m c 4 t) (iblk m c 6 t) (iblk m c 8 t) (ix2 r j)
      = mix m c (gr t r) ⟨j.val, by omega⟩ := by
  rw [pay5_at, ret_at, conf_at, hy_at, raw4 m c t, raw6 m c t, raw8 m c t, V_main_arg1]
  rfl

/-- The columns of the second half. -/
theorem high_at (r j : Fin 512) :
    k0_pay6 (iblk m c 1 t) (iblk m c 11 t) (iblk m c 5 t) (ix2 r j) + k0_pay7 (iblk m c 7 t) (ix2 r j) * k0_pay8 (iblk m c 2 t) (iblk m c 12 t) (ix2 r j)
        + Ideal.logistic (iblk m c 9 t (ix2 r j)) * k0_pay4 (iblk m c 3 t) (iblk m c 13 t) (ix2 r ⟨512 + j.val, by omega⟩)
      = mix m c (gr t r) ⟨512 + j.val, by omega⟩ := by
  rw [pay6_at, pay7_at, pay8_at, ret_at, conf_at, hy_at, raw5 m c t, raw7 m c t, raw9 m c t, V_main_arg1]
  unfold mix mixed
  simp only [← Nat.add_assoc]

/-- All arguments' merged array. -/
def res : FVec Ideal S16384x1024 .f32 := merged (aX m c) (aP m c) (aR m c) (aC m c) (aH m c) (aG m c) (wR m c) (wC m c) (wH m c) (wO m c)

/-- A point's block of the result. -/
@[irreducible] def outP : Vec Ideal S512x1024 .f32 :=
  out0_15 (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t)

theorem after_eq : (dats m 0 c).after 15 t = outP m c t := by
  unfold outP
  exact after0_15 m c t

theorem out_at (r : Fin 512) (l : Fin 1024) : outP m c t (ix2 r l) = res m c (ix2 (gr t r) l) := by
  have hb : (⟨(gr t r).val / 8192, by omega⟩ : Fin 2) = gb t := Fin.ext (by simp only [gr, gb]; omega)
  unfold outP out0_15
  rw [View.canon_unit_zero (by decide)]
  simp only [View.ld_unit_zero (S := S512x1024) (off := ![0, 0]) (by decide), View.ld_unit_zero (S := S512x512) (off := ![0, 0]) (by decide),
    View.ld_unit_zero (S := S1024x1024) (off := ![0, 0]) (by decide), View.ld_unit_zero (S := S1x1x1024) (off := ![0, 0, 0]) (by decide)]
  rw [pay1_at, raw0 m c t, x_at, raw10 m c t, V_main_arg5]
  refine congrArg₂ (· + ·) rfl (congrArg₂ (· * ·) (by rw [← hb]; rfl) ?_)
  refine Eq.trans ?_ (Fin.sum_univ_add (a := 512) (b := 512) (fun j : Fin 1024 => mix m c (gr t r) j * wO m c (ix2 j l))).symm
  refine congrArg₂ (· + ·) (Finset.sum_congr rfl fun j _ => ?_) (Finset.sum_congr rfl fun j _ => ?_)
  · rw [low_at, raw14 m c t, wO_at]
    rfl
  · rw [high_at, raw14 m c t, wO_at]
    rfl

end

/-! ## What the run leaves -/

/-- The points' blocks cover the array. -/
theorem arr (c : Dev nD) : (dats m 0 c).arrAt 15 cfg0.N = res m c := by
  refine (dats m 0 c).arrAt_eq_of_covers 15 _ (by decide +kernel) fun t hf y => ?_
  rw [after_eq]
  have hi := idx15 t
  have h0 : (y 0).val < 512 := (y 0).isLt
  have h1 : (y 1).val < 1024 := (y 1).isLt
  refine ((congrArg (outP m c t) (eq_ix2 y)).trans (out_at m c t (y 0) (y 1))).trans (congrArg (res m c) ?_)
  refine funext fun a => match a with
    | ⟨0, _⟩ => Fin.ext ?_
    | ⟨1, _⟩ => Fin.ext ?_
  · show 512 * t.val + (y 0).val = win0_15.index t 0 * 512 + 1 * (y 0).val
    rw [hi]
    show 512 * t.val + (y 0).val = t.val * 512 + 1 * (y 0).val
    omega
  · show (y 1).val = win0_15.index t 1 * 1024 + 1 * (y 1).val
    rw [hi]
    show (y 1).val = 0 * 1024 + 1 * (y 1).val
    omega

end Cert.Kernel3Ideal.Merge

end
-- ==== Proof.MergePlain.lean ====
/- What the plain merge computes: the same array. -/
module

public import proofs.«01_k».proof.Proof.MergeValue
public import proofs.«01_k».proof.Proof.Gen.Reference3Ideal.Run

@[expose] public section

set_option maxRecDepth 16384

noncomputable section

namespace Cert.Reference3Ideal.Plain

open Idealize.ShloMosaic Idealize.ShloMosaic.TcCoe Idealize.SL.Sem
open Cert.Kernel2Ideal.Proj (ext2)
open Cert.Kernel3Ideal.Merge (mixed merged)
open Cert.Reference3Ideal Cert.Reference3Ideal.Gen

variable (X : FVec Ideal S2x8192x1024 .f32) (P : FVec Ideal S16384x8192 .f32) (R : FVec Ideal S16384x1024 .bf16) (C : FVec Ideal S16384x512 .bf16)
  (H : FVec Ideal S512x16384 .f32) (G : FVec Ideal S2x1x1024 .f32) (Wr : FVec Ideal S1024x1024 .f32) (Wc Wh : FVec Ideal S512x1024 .f32)
  (Wo : FVec Ideal S1024x1024 .f32)

/-- The gates of all three branches, side by side. -/
def gates : FVec Ideal S16384x3072 .f32 :=
  Host.divf (broadcastInDim S16384x3072 ![] bcast_S_S16384x3072 (constant S_ .f32 0x3F800000#32))
    (addf (broadcastInDim S16384x3072 ![] bcast_S_S16384x3072 (constant S_ .f32 0x3F800000#32))
      (Host.exp (Host.negf (extractStridedSlice S16384x3072 ![0, 4096] P slices_S16384x8192_S16384x3072_0_4096))))

theorem gates_at (r : Fin 16384) (j : Fin 3072) : gates P (ix2 r j) = Ideal.logistic (P (ix2 r ⟨4096 + j.val, by omega⟩)) := by
  unfold gates Ideal.logistic
  pointwise []

/-- The branches' products, each times a third of the gates. -/
def weighted (g : FVec Ideal S16384x3072 .f32) : FVec Ideal S16384x1024 .f32 :=
  addf (addf
    (mulf (extractStridedSlice S16384x1024 ![0, 0] g slices_S16384x3072_S16384x1024_0_0)
      (Host.dotGeneral dot_S16384x1024_S1024x1024_S16384x1024_1_0_0_1_n_n none (extf .f32 R bitsLt_bf16_f32) Wr))
    (mulf (extractStridedSlice S16384x1024 ![0, 1024] g slices_S16384x3072_S16384x1024_0_1024)
      (Host.dotGeneral dot_S16384x512_S512x1024_S16384x1024_1_0_0_1_n_n none (extf .f32 C bitsLt_bf16_f32) Wc)))
    (mulf (extractStridedSlice S16384x1024 ![0, 2048] g slices_S16384x3072_S16384x1024_0_2048)
      (Host.dotGeneral dot_S16384x512_S512x1024_S16384x1024_1_0_0_1_n_n none (transpose S16384x512 [1, 0] H transposes_S512x16384_S16384x512_1_0) Wh))

theorem weighted_at (g : FVec Ideal S16384x3072 .f32) (r : Fin 16384) (j : Fin 1024) : weighted R C H Wr Wc Wh g (ix2 r j)
    = g (ix2 r ⟨j.val, by omega⟩) * (∑ k : Fin 1024, R (ix2 r k) * Wr (ix2 k j))
      + g (ix2 r ⟨1024 + j.val, by omega⟩) * (∑ k : Fin 512, C (ix2 r k) * Wc (ix2 k j))
      + g (ix2 r ⟨2048 + j.val, by omega⟩) * (∑ k : Fin 512, H (ix2 k r) * Wh (ix2 k j)) := by
  unfold weighted
  pointwise []

theorem mixed_at (r : Fin 16384) (j : Fin 1024) : weighted R C H Wr Wc Wh (gates P) (ix2 r j) = mixed P R C H Wr Wc Wh r j := by
  rw [weighted_at, gates_at, gates_at, gates_at]
  unfold mixed
  simp only [← Nat.add_assoc, Nat.reduceAdd]

/-- The output projection. -/
theorem proj_at (M : FVec Ideal S16384x1024 .f32) (r : Fin 16384) (l : Fin 1024) :
    Host.dotGeneral dot_S16384x1024_S1024x1024_S16384x1024_1_0_0_1_n_n none M Wo (ix2 r l) = (∑ j : Fin 1024, M (ix2 r j) * Wo (ix2 j l) : EReal) := by
  pointwise []

/-- The residual, at a token of a sequence. -/
theorem resid_at (Y : FVec Ideal S16384x1024 .f32) (r : Fin 16384) (l : Fin 1024) :
    shapeCast S16384x1024 (addf X (mulf (broadcastInDim S2x8192x1024 ![0, 1, 2] bcast_S2x1x1024_S2x8192x1024_0_1_2 G)
      (shapeCast S2x8192x1024 Y shapeCasts_S16384x1024_S2x8192x1024))) shapeCasts_S2x8192x1024_S16384x1024 (ix2 r l)
      = X (ix3 ⟨r.val / 8192, by omega⟩ ⟨r.val % 8192, by omega⟩ l) + G (ix3 ⟨r.val / 8192, by omega⟩ 0 l) * Y (ix2 r l) := by
  have e : (⟨r.val / 8192 * 8192 + r.val % 8192, by omega⟩ : Fin 16384) = r := Fin.ext (by simp only []; omega)
  pointwise []

/-- The plain merge is the merged array. -/
theorem plain_eq :
    shapeCast S16384x1024 (addf X (mulf (broadcastInDim S2x8192x1024 ![0, 1, 2] bcast_S2x1x1024_S2x8192x1024_0_1_2 G)
      (shapeCast S2x8192x1024 (Host.dotGeneral dot_S16384x1024_S1024x1024_S16384x1024_1_0_0_1_n_n none (weighted R C H Wr Wc Wh (gates P)) Wo)
        shapeCasts_S16384x1024_S2x8192x1024))) shapeCasts_S2x8192x1024_S16384x1024
      = merged X P R C H G Wr Wc Wh Wo := by
  refine ext2 fun r l => (resid_at X G _ r l).trans ?_
  rw [proj_at]
  simp only [mixed_at]
  rfl

end Cert.Reference3Ideal.Plain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.FwdRun
public import proofs.«01_k».proof.Proof.KerFwd
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.ProjFrameBits
public import proofs.«01_k».proof.Proof.ProjPlain
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.MergePlain
public import Idealize.ShloMosaic.Adequacy
public import Idealize.ShloMosaic.Init

@[expose] public section

noncomputable section

namespace Cert.Proof

open Idealize.ShloMosaic Idealize.SL.Sem

/-- The plain recurrence runs, leaves its arguments as they were, and ends with every counter at zero: it declares none. -/
theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Trips.run_iter (F := Ideal) m ρ
      (fun c => Cert.RetFwd.it (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4)))
      (fun _ => rfl) (fun _ _ => rfl))

/-- The idealized kernel and the plain recurrence, from equal arguments, end with equal results: both are
    `Cert.KernelIdeal.Ret.ret`, the retention of the kernel's arguments. -/
theorem algebraic : Cert.algebraic_KernelIdeal_ReferenceIdeal := by
  intro m ρ m' ρ' _ hagree
  refine ⟨fun c => Cert.KernelIdeal.Ret.ret m c, ?_, ?_⟩
  · exact (θ_run Cert.KernelIdeal.defs _ _).mono
      (fun r h c => ⟨(h c).1.trans ((Cert.KernelIdeal.Value.final12 m c).symm.trans (Cert.KernelIdeal.Ret.arr m c)), (h c).2.2⟩)
      (Cert.KernelIdeal.Value.run m ρ)
  · refine (θ_run Cert.ReferenceIdeal.defs _ _).mono
      (fun r h c => ⟨(h c).1.trans ?_, (h c).2⟩)
      (Cert.ReferenceIdeal.Trips.run_iter (F := Ideal) m' ρ'
        (fun c => Cert.RetFwd.it (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)))
        (fun _ => rfl) (fun _ _ => rfl))
    obtain ⟨e0, e1, e2, e3, e4⟩ := hagree c
    show Cert.ReferenceIdeal.Step.R_main_v100 (Cert.RetFwd.it _ _ _ _ _ 64) = _
    rw [e0, e1, e2, e3, e4]
    exact Cert.KernelIdeal.Ret.ref_eq m c

/-- The plain projection runs, leaves its arguments as they were, and ends with every counter at zero: it declares none. -/
theorem frame_reference2 : Cert.quiescent_Reference2Ideal := by
  intro m ρ _
  exact (θ_run Cert.Reference2Ideal.defs _ _).mono
    (fun r h => ⟨fun c => (h c).2, sem_eq_zero_of_no_sems (by decide) r.2⟩) (Cert.Reference2Ideal.Plain.run_plain m ρ)

/-- The idealized input projection and the plain one, from equal arguments, end with equal results: the rows times the
    first matrix, and the rows under the second. -/
theorem algebraic2 : Cert.algebraic_Kernel2Ideal_Reference2Ideal := by
  intro m ρ m' ρ' _ hagree
  refine ⟨_, _, Cert.Kernel2Ideal.Proj.run_value m ρ, (θ_run Cert.Reference2Ideal.defs _ _).mono
    (fun r h c => ⟨(h c).1.1.trans ?_, (h c).1.2.trans ?_, (h c).2⟩) (Cert.Reference2Ideal.Plain.run_plain m' ρ')⟩ <;>
  · obtain ⟨e0, e1, e2, e3, e4, e5⟩ := hagree c
    simp only [e0, e1, e2, e3, e4, e5]

/-- The plain merge runs, leaves its arguments as they were, and ends with every counter at zero: it declares none. -/
theorem frame_reference3 : Cert.quiescent_Reference3Ideal := by
  intro m ρ _
  exact (θ_run Cert.Reference3Ideal.defs _ _).mono
    (fun r h => ⟨fun c => (h c).2, sem_eq_zero_of_no_sems (by decide) r.2⟩) (Cert.Reference3Ideal.Value.run (F := Ideal) m ρ)

/-- The idealized merge and the plain one, from equal arguments, end with equal results: both are
    `Cert.Kernel3Ideal.Merge.res`, the merged array of the kernel's arguments. -/
theorem algebraic3 : Cert.algebraic_Kernel3Ideal_Reference3Ideal := by
  intro m ρ m' ρ' _ hagree
  refine ⟨fun c => Cert.Kernel3Ideal.Merge.res m c, ?_, ?_⟩
  · exact (θ_run Cert.Kernel3Ideal.defs _ _).mono (fun r h c => ⟨(h c).1.trans (Cert.Kernel3Ideal.Merge.arr m c), (h c).2⟩)
      (Cert.Kernel3Ideal.Value.run_blocks m ρ)
  · refine (θ_run Cert.Reference3Ideal.defs _ _).mono
      (fun r h c => ⟨(h c).1.trans ((Cert.Reference3Ideal.Plain.plain_eq _ _ _ _ _ _ _ _ _ _).trans ?_), (h c).2⟩)
      (Cert.Reference3Ideal.Value.run (F := Ideal) m' ρ')
    obtain ⟨e0, e1, e2, e3, e4, e5, e6, e7, e8, e9⟩ := hagree c
    rw [e0, e1, e2, e3, e4, e5, e6, e7, e8, e9]
    rfl

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    fun m ρ _ => Cert.Kernel.Gen.frame m ρ, fun m ρ _ => Cert.KernelIdeal.Gen.frame m ρ, frame_reference,
    fun m ρ _ => Cert.Kernel2.Proj.frame_all m ρ, fun m ρ _ => Cert.Kernel2Ideal.Proj.frame_all m ρ, frame_reference2,
    fun m ρ _ => Cert.Kernel3.Gen.frame m ρ, fun m ρ _ => Cert.Kernel3Ideal.Gen.frame m ρ, frame_reference3,
    trivial, algebraic, trivial, algebraic2, trivial, algebraic3⟩

end Cert.Proof

end
